-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_attention [hPre_finite_attention : Cert.Pre_finite_attention.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_attention.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_attention [hPre_finite_attention : Cert.Pre_finite_attention.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_attention.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_memory [hPre_finite_memory : Cert.Pre_finite_memory.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_memory.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)) (m ((c.tc : Thread Cert.MemoryIdeal.nD Cert.MemoryIdeal.τ).loc Cert.MemoryIdeal.main_arg3)) (m ((c.tc : Thread Cert.MemoryIdeal.nD Cert.MemoryIdeal.τ).loc Cert.MemoryIdeal.main_arg4)) (m ((c.tc : Thread Cert.MemoryIdeal.nD Cert.MemoryIdeal.τ).loc Cert.MemoryIdeal.main_arg5)) (m ((c.tc : Thread Cert.MemoryIdeal.nD Cert.MemoryIdeal.τ).loc Cert.MemoryIdeal.main_arg6)) (m ((c.tc : Thread Cert.MemoryIdeal.nD Cert.MemoryIdeal.τ).loc Cert.MemoryIdeal.main_arg7)) (m ((c.tc : Thread Cert.MemoryIdeal.nD Cert.MemoryIdeal.τ).loc Cert.MemoryIdeal.main_arg8)) (m ((c.tc : Thread Cert.MemoryIdeal.nD Cert.MemoryIdeal.τ).loc Cert.MemoryIdeal.main_arg9)) (m ((c.tc : Thread Cert.MemoryIdeal.nD Cert.MemoryIdeal.τ).loc Cert.MemoryIdeal.main_arg10)) (m ((c.tc : Thread Cert.MemoryIdeal.nD Cert.MemoryIdeal.τ).loc Cert.MemoryIdeal.main_arg11)) (m ((c.tc : Thread Cert.MemoryIdeal.nD Cert.MemoryIdeal.τ).loc Cert.MemoryIdeal.main_arg12)) (m ((c.tc : Thread Cert.MemoryIdeal.nD Cert.MemoryIdeal.τ).loc Cert.MemoryIdeal.main_arg13))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_memory [hPre_finite_memory : Cert.Pre_finite_memory.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_memory.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2)) (m ((c.tc : Thread Cert.MemoryRefIdeal.nD Cert.MemoryRefIdeal.τ).loc Cert.MemoryRefIdeal.main_arg3)) (m ((c.tc : Thread Cert.MemoryRefIdeal.nD Cert.MemoryRefIdeal.τ).loc Cert.MemoryRefIdeal.main_arg4)) (m ((c.tc : Thread Cert.MemoryRefIdeal.nD Cert.MemoryRefIdeal.τ).loc Cert.MemoryRefIdeal.main_arg5)) (m ((c.tc : Thread Cert.MemoryRefIdeal.nD Cert.MemoryRefIdeal.τ).loc Cert.MemoryRefIdeal.main_arg6)) (m ((c.tc : Thread Cert.MemoryRefIdeal.nD Cert.MemoryRefIdeal.τ).loc Cert.MemoryRefIdeal.main_arg7)) (m ((c.tc : Thread Cert.MemoryRefIdeal.nD Cert.MemoryRefIdeal.τ).loc Cert.MemoryRefIdeal.main_arg8)) (m ((c.tc : Thread Cert.MemoryRefIdeal.nD Cert.MemoryRefIdeal.τ).loc Cert.MemoryRefIdeal.main_arg9)) (m ((c.tc : Thread Cert.MemoryRefIdeal.nD Cert.MemoryRefIdeal.τ).loc Cert.MemoryRefIdeal.main_arg10)) (m ((c.tc : Thread Cert.MemoryRefIdeal.nD Cert.MemoryRefIdeal.τ).loc Cert.MemoryRefIdeal.main_arg11)) (m ((c.tc : Thread Cert.MemoryRefIdeal.nD Cert.MemoryRefIdeal.τ).loc Cert.MemoryRefIdeal.main_arg12)) (m ((c.tc : Thread Cert.MemoryRefIdeal.nD Cert.MemoryRefIdeal.τ).loc Cert.MemoryRefIdeal.main_arg13))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_attention [hAttentionIdeal : Cert.AttentionIdeal.Facts] [hPre_finite_attention : Cert.Pre_finite_attention.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_attention m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_AttentionRefIdeal_pre_finite_attention [hAttentionRefIdeal : Cert.AttentionRefIdeal.Facts] [hPre_finite_attention : Cert.Pre_finite_attention.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_attention m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5)
      ∧ r.2.mem ((c.tc : Thread Cert.Memory.nD Cert.Memory.τ).loc Cert.Memory.main_arg6) = m ((c.tc : Thread Cert.Memory.nD Cert.Memory.τ).loc Cert.Memory.main_arg6)
      ∧ r.2.mem ((c.tc : Thread Cert.Memory.nD Cert.Memory.τ).loc Cert.Memory.main_arg7) = m ((c.tc : Thread Cert.Memory.nD Cert.Memory.τ).loc Cert.Memory.main_arg7)
      ∧ r.2.mem ((c.tc : Thread Cert.Memory.nD Cert.Memory.τ).loc Cert.Memory.main_arg8) = m ((c.tc : Thread Cert.Memory.nD Cert.Memory.τ).loc Cert.Memory.main_arg8)
      ∧ r.2.mem ((c.tc : Thread Cert.Memory.nD Cert.Memory.τ).loc Cert.Memory.main_arg9) = m ((c.tc : Thread Cert.Memory.nD Cert.Memory.τ).loc Cert.Memory.main_arg9)
      ∧ r.2.mem ((c.tc : Thread Cert.Memory.nD Cert.Memory.τ).loc Cert.Memory.main_arg10) = m ((c.tc : Thread Cert.Memory.nD Cert.Memory.τ).loc Cert.Memory.main_arg10)
      ∧ r.2.mem ((c.tc : Thread Cert.Memory.nD Cert.Memory.τ).loc Cert.Memory.main_arg11) = m ((c.tc : Thread Cert.Memory.nD Cert.Memory.τ).loc Cert.Memory.main_arg11)
      ∧ r.2.mem ((c.tc : Thread Cert.Memory.nD Cert.Memory.τ).loc Cert.Memory.main_arg12) = m ((c.tc : Thread Cert.Memory.nD Cert.Memory.τ).loc Cert.Memory.main_arg12)
      ∧ r.2.mem ((c.tc : Thread Cert.Memory.nD Cert.Memory.τ).loc Cert.Memory.main_arg13) = m ((c.tc : Thread Cert.Memory.nD Cert.Memory.τ).loc Cert.Memory.main_arg13))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
      ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7)
      ∧ r.2.mem ((c.tc : Thread Cert.MemoryIdeal.nD Cert.MemoryIdeal.τ).loc Cert.MemoryIdeal.main_arg8) = m ((c.tc : Thread Cert.MemoryIdeal.nD Cert.MemoryIdeal.τ).loc Cert.MemoryIdeal.main_arg8)
      ∧ r.2.mem ((c.tc : Thread Cert.MemoryIdeal.nD Cert.MemoryIdeal.τ).loc Cert.MemoryIdeal.main_arg9) = m ((c.tc : Thread Cert.MemoryIdeal.nD Cert.MemoryIdeal.τ).loc Cert.MemoryIdeal.main_arg9)
      ∧ r.2.mem ((c.tc : Thread Cert.MemoryIdeal.nD Cert.MemoryIdeal.τ).loc Cert.MemoryIdeal.main_arg10) = m ((c.tc : Thread Cert.MemoryIdeal.nD Cert.MemoryIdeal.τ).loc Cert.MemoryIdeal.main_arg10)
      ∧ r.2.mem ((c.tc : Thread Cert.MemoryIdeal.nD Cert.MemoryIdeal.τ).loc Cert.MemoryIdeal.main_arg11) = m ((c.tc : Thread Cert.MemoryIdeal.nD Cert.MemoryIdeal.τ).loc Cert.MemoryIdeal.main_arg11)
      ∧ r.2.mem ((c.tc : Thread Cert.MemoryIdeal.nD Cert.MemoryIdeal.τ).loc Cert.MemoryIdeal.main_arg12) = m ((c.tc : Thread Cert.MemoryIdeal.nD Cert.MemoryIdeal.τ).loc Cert.MemoryIdeal.main_arg12)
      ∧ r.2.mem ((c.tc : Thread Cert.MemoryIdeal.nD Cert.MemoryIdeal.τ).loc Cert.MemoryIdeal.main_arg13) = m ((c.tc : Thread Cert.MemoryIdeal.nD Cert.MemoryIdeal.τ).loc Cert.MemoryIdeal.main_arg13))
      ∧ r.2.sem = fun _ => 0)

def quiescent_MemoryIdeal_pre_finite_memory [hMemoryIdeal : Cert.MemoryIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_memory m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
      ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7)
      ∧ r.2.mem ((c.tc : Thread Cert.MemoryIdeal.nD Cert.MemoryIdeal.τ).loc Cert.MemoryIdeal.main_arg8) = m ((c.tc : Thread Cert.MemoryIdeal.nD Cert.MemoryIdeal.τ).loc Cert.MemoryIdeal.main_arg8)
      ∧ r.2.mem ((c.tc : Thread Cert.MemoryIdeal.nD Cert.MemoryIdeal.τ).loc Cert.MemoryIdeal.main_arg9) = m ((c.tc : Thread Cert.MemoryIdeal.nD Cert.MemoryIdeal.τ).loc Cert.MemoryIdeal.main_arg9)
      ∧ r.2.mem ((c.tc : Thread Cert.MemoryIdeal.nD Cert.MemoryIdeal.τ).loc Cert.MemoryIdeal.main_arg10) = m ((c.tc : Thread Cert.MemoryIdeal.nD Cert.MemoryIdeal.τ).loc Cert.MemoryIdeal.main_arg10)
      ∧ r.2.mem ((c.tc : Thread Cert.MemoryIdeal.nD Cert.MemoryIdeal.τ).loc Cert.MemoryIdeal.main_arg11) = m ((c.tc : Thread Cert.MemoryIdeal.nD Cert.MemoryIdeal.τ).loc Cert.MemoryIdeal.main_arg11)
      ∧ r.2.mem ((c.tc : Thread Cert.MemoryIdeal.nD Cert.MemoryIdeal.τ).loc Cert.MemoryIdeal.main_arg12) = m ((c.tc : Thread Cert.MemoryIdeal.nD Cert.MemoryIdeal.τ).loc Cert.MemoryIdeal.main_arg12)
      ∧ r.2.mem ((c.tc : Thread Cert.MemoryIdeal.nD Cert.MemoryIdeal.τ).loc Cert.MemoryIdeal.main_arg13) = m ((c.tc : Thread Cert.MemoryIdeal.nD Cert.MemoryIdeal.τ).loc Cert.MemoryIdeal.main_arg13))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6)
      ∧ r.2.mem ((c.tc : Thread Cert.MemoryRefIdeal.nD Cert.MemoryRefIdeal.τ).loc Cert.MemoryRefIdeal.main_arg7) = m ((c.tc : Thread Cert.MemoryRefIdeal.nD Cert.MemoryRefIdeal.τ).loc Cert.MemoryRefIdeal.main_arg7)
      ∧ r.2.mem ((c.tc : Thread Cert.MemoryRefIdeal.nD Cert.MemoryRefIdeal.τ).loc Cert.MemoryRefIdeal.main_arg8) = m ((c.tc : Thread Cert.MemoryRefIdeal.nD Cert.MemoryRefIdeal.τ).loc Cert.MemoryRefIdeal.main_arg8)
      ∧ r.2.mem ((c.tc : Thread Cert.MemoryRefIdeal.nD Cert.MemoryRefIdeal.τ).loc Cert.MemoryRefIdeal.main_arg9) = m ((c.tc : Thread Cert.MemoryRefIdeal.nD Cert.MemoryRefIdeal.τ).loc Cert.MemoryRefIdeal.main_arg9)
      ∧ r.2.mem ((c.tc : Thread Cert.MemoryRefIdeal.nD Cert.MemoryRefIdeal.τ).loc Cert.MemoryRefIdeal.main_arg10) = m ((c.tc : Thread Cert.MemoryRefIdeal.nD Cert.MemoryRefIdeal.τ).loc Cert.MemoryRefIdeal.main_arg10)
      ∧ r.2.mem ((c.tc : Thread Cert.MemoryRefIdeal.nD Cert.MemoryRefIdeal.τ).loc Cert.MemoryRefIdeal.main_arg11) = m ((c.tc : Thread Cert.MemoryRefIdeal.nD Cert.MemoryRefIdeal.τ).loc Cert.MemoryRefIdeal.main_arg11)
      ∧ r.2.mem ((c.tc : Thread Cert.MemoryRefIdeal.nD Cert.MemoryRefIdeal.τ).loc Cert.MemoryRefIdeal.main_arg12) = m ((c.tc : Thread Cert.MemoryRefIdeal.nD Cert.MemoryRefIdeal.τ).loc Cert.MemoryRefIdeal.main_arg12)
      ∧ r.2.mem ((c.tc : Thread Cert.MemoryRefIdeal.nD Cert.MemoryRefIdeal.τ).loc Cert.MemoryRefIdeal.main_arg13) = m ((c.tc : Thread Cert.MemoryRefIdeal.nD Cert.MemoryRefIdeal.τ).loc Cert.MemoryRefIdeal.main_arg13))
      ∧ r.2.sem = fun _ => 0)

def quiescent_MemoryRefIdeal_pre_finite_memory [hMemoryRefIdeal : Cert.MemoryRefIdeal.Facts] [hPre_finite_memory : Cert.Pre_finite_memory.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_memory m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6)
      ∧ r.2.mem ((c.tc : Thread Cert.MemoryRefIdeal.nD Cert.MemoryRefIdeal.τ).loc Cert.MemoryRefIdeal.main_arg7) = m ((c.tc : Thread Cert.MemoryRefIdeal.nD Cert.MemoryRefIdeal.τ).loc Cert.MemoryRefIdeal.main_arg7)
      ∧ r.2.mem ((c.tc : Thread Cert.MemoryRefIdeal.nD Cert.MemoryRefIdeal.τ).loc Cert.MemoryRefIdeal.main_arg8) = m ((c.tc : Thread Cert.MemoryRefIdeal.nD Cert.MemoryRefIdeal.τ).loc Cert.MemoryRefIdeal.main_arg8)
      ∧ r.2.mem ((c.tc : Thread Cert.MemoryRefIdeal.nD Cert.MemoryRefIdeal.τ).loc Cert.MemoryRefIdeal.main_arg9) = m ((c.tc : Thread Cert.MemoryRefIdeal.nD Cert.MemoryRefIdeal.τ).loc Cert.MemoryRefIdeal.main_arg9)
      ∧ r.2.mem ((c.tc : Thread Cert.MemoryRefIdeal.nD Cert.MemoryRefIdeal.τ).loc Cert.MemoryRefIdeal.main_arg10) = m ((c.tc : Thread Cert.MemoryRefIdeal.nD Cert.MemoryRefIdeal.τ).loc Cert.MemoryRefIdeal.main_arg10)
      ∧ r.2.mem ((c.tc : Thread Cert.MemoryRefIdeal.nD Cert.MemoryRefIdeal.τ).loc Cert.MemoryRefIdeal.main_arg11) = m ((c.tc : Thread Cert.MemoryRefIdeal.nD Cert.MemoryRefIdeal.τ).loc Cert.MemoryRefIdeal.main_arg11)
      ∧ r.2.mem ((c.tc : Thread Cert.MemoryRefIdeal.nD Cert.MemoryRefIdeal.τ).loc Cert.MemoryRefIdeal.main_arg12) = m ((c.tc : Thread Cert.MemoryRefIdeal.nD Cert.MemoryRefIdeal.τ).loc Cert.MemoryRefIdeal.main_arg12)
      ∧ r.2.mem ((c.tc : Thread Cert.MemoryRefIdeal.nD Cert.MemoryRefIdeal.τ).loc Cert.MemoryRefIdeal.main_arg13) = m ((c.tc : Thread Cert.MemoryRefIdeal.nD Cert.MemoryRefIdeal.τ).loc Cert.MemoryRefIdeal.main_arg13))
      ∧ r.2.sem = fun _ => 0)

def preserves_Attention_AttentionIdeal : Prop :=
  IdealRules.named_const.Statement Cert.AttentionIdeal.κ "mask" .f32 0xCE6E6B28#32 ⊥

def algebraic_AttentionIdeal_AttentionRefIdeal_pre_finite_attention [hAttentionIdeal : Cert.AttentionIdeal.Facts] [hAttentionRefIdeal : Cert.AttentionRefIdeal.Facts] [hPre_finite_attention : Cert.Pre_finite_attention.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_attention m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v39) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1))

def preserves_Memory_MemoryIdeal : Prop :=
  True

def algebraic_MemoryIdeal_MemoryRefIdeal_pre_finite_memory [hMemoryIdeal : Cert.MemoryIdeal.Facts] [hMemoryRefIdeal : Cert.MemoryRefIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_memory m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)
      ∧ m' ((c.tc : Thread Cert.MemoryRefIdeal.nD Cert.MemoryRefIdeal.τ).loc Cert.MemoryRefIdeal.main_arg6) = m ((c.tc : Thread Cert.MemoryIdeal.nD Cert.MemoryIdeal.τ).loc Cert.MemoryIdeal.main_arg6)
      ∧ m' ((c.tc : Thread Cert.MemoryRefIdeal.nD Cert.MemoryRefIdeal.τ).loc Cert.MemoryRefIdeal.main_arg7) = m ((c.tc : Thread Cert.MemoryIdeal.nD Cert.MemoryIdeal.τ).loc Cert.MemoryIdeal.main_arg7)
      ∧ m' ((c.tc : Thread Cert.MemoryRefIdeal.nD Cert.MemoryRefIdeal.τ).loc Cert.MemoryRefIdeal.main_arg8) = m ((c.tc : Thread Cert.MemoryIdeal.nD Cert.MemoryIdeal.τ).loc Cert.MemoryIdeal.main_arg8)
      ∧ m' ((c.tc : Thread Cert.MemoryRefIdeal.nD Cert.MemoryRefIdeal.τ).loc Cert.MemoryRefIdeal.main_arg9) = m ((c.tc : Thread Cert.MemoryIdeal.nD Cert.MemoryIdeal.τ).loc Cert.MemoryIdeal.main_arg9)
      ∧ m' ((c.tc : Thread Cert.MemoryRefIdeal.nD Cert.MemoryRefIdeal.τ).loc Cert.MemoryRefIdeal.main_arg10) = m ((c.tc : Thread Cert.MemoryIdeal.nD Cert.MemoryIdeal.τ).loc Cert.MemoryIdeal.main_arg10)
      ∧ m' ((c.tc : Thread Cert.MemoryRefIdeal.nD Cert.MemoryRefIdeal.τ).loc Cert.MemoryRefIdeal.main_arg11) = m ((c.tc : Thread Cert.MemoryIdeal.nD Cert.MemoryIdeal.τ).loc Cert.MemoryIdeal.main_arg11)
      ∧ m' ((c.tc : Thread Cert.MemoryRefIdeal.nD Cert.MemoryRefIdeal.τ).loc Cert.MemoryRefIdeal.main_arg12) = m ((c.tc : Thread Cert.MemoryIdeal.nD Cert.MemoryIdeal.τ).loc Cert.MemoryIdeal.main_arg12)
      ∧ m' ((c.tc : Thread Cert.MemoryRefIdeal.nD Cert.MemoryRefIdeal.τ).loc Cert.MemoryRefIdeal.main_arg13) = m ((c.tc : Thread Cert.MemoryIdeal.nD Cert.MemoryIdeal.τ).loc Cert.MemoryIdeal.main_arg13)) →
    ∃ (v0 : (c : Dev Cert.MemoryIdeal.nD) → Buf (Elt Ideal) ((c.tc : Thread Cert.MemoryIdeal.nD Cert.MemoryIdeal.τ).loc Cert.MemoryIdeal.main_v29)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v29) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
          ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
          ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7)
          ∧ r.2.mem ((c.tc : Thread Cert.MemoryIdeal.nD Cert.MemoryIdeal.τ).loc Cert.MemoryIdeal.main_arg8) = m ((c.tc : Thread Cert.MemoryIdeal.nD Cert.MemoryIdeal.τ).loc Cert.MemoryIdeal.main_arg8)
          ∧ r.2.mem ((c.tc : Thread Cert.MemoryIdeal.nD Cert.MemoryIdeal.τ).loc Cert.MemoryIdeal.main_arg9) = m ((c.tc : Thread Cert.MemoryIdeal.nD Cert.MemoryIdeal.τ).loc Cert.MemoryIdeal.main_arg9)
          ∧ r.2.mem ((c.tc : Thread Cert.MemoryIdeal.nD Cert.MemoryIdeal.τ).loc Cert.MemoryIdeal.main_arg10) = m ((c.tc : Thread Cert.MemoryIdeal.nD Cert.MemoryIdeal.τ).loc Cert.MemoryIdeal.main_arg10)
          ∧ r.2.mem ((c.tc : Thread Cert.MemoryIdeal.nD Cert.MemoryIdeal.τ).loc Cert.MemoryIdeal.main_arg11) = m ((c.tc : Thread Cert.MemoryIdeal.nD Cert.MemoryIdeal.τ).loc Cert.MemoryIdeal.main_arg11)
          ∧ r.2.mem ((c.tc : Thread Cert.MemoryIdeal.nD Cert.MemoryIdeal.τ).loc Cert.MemoryIdeal.main_arg12) = m ((c.tc : Thread Cert.MemoryIdeal.nD Cert.MemoryIdeal.τ).loc Cert.MemoryIdeal.main_arg12)
          ∧ r.2.mem ((c.tc : Thread Cert.MemoryIdeal.nD Cert.MemoryIdeal.τ).loc Cert.MemoryIdeal.main_arg13) = m ((c.tc : Thread Cert.MemoryIdeal.nD Cert.MemoryIdeal.τ).loc Cert.MemoryIdeal.main_arg13))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v126) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5)
          ∧ r.2.mem ((c.tc : Thread Cert.MemoryRefIdeal.nD Cert.MemoryRefIdeal.τ).loc Cert.MemoryRefIdeal.main_arg6) = m' ((c.tc : Thread Cert.MemoryRefIdeal.nD Cert.MemoryRefIdeal.τ).loc Cert.MemoryRefIdeal.main_arg6)
          ∧ r.2.mem ((c.tc : Thread Cert.MemoryRefIdeal.nD Cert.MemoryRefIdeal.τ).loc Cert.MemoryRefIdeal.main_arg7) = m' ((c.tc : Thread Cert.MemoryRefIdeal.nD Cert.MemoryRefIdeal.τ).loc Cert.MemoryRefIdeal.main_arg7)
          ∧ r.2.mem ((c.tc : Thread Cert.MemoryRefIdeal.nD Cert.MemoryRefIdeal.τ).loc Cert.MemoryRefIdeal.main_arg8) = m' ((c.tc : Thread Cert.MemoryRefIdeal.nD Cert.MemoryRefIdeal.τ).loc Cert.MemoryRefIdeal.main_arg8)
          ∧ r.2.mem ((c.tc : Thread Cert.MemoryRefIdeal.nD Cert.MemoryRefIdeal.τ).loc Cert.MemoryRefIdeal.main_arg9) = m' ((c.tc : Thread Cert.MemoryRefIdeal.nD Cert.MemoryRefIdeal.τ).loc Cert.MemoryRefIdeal.main_arg9)
          ∧ r.2.mem ((c.tc : Thread Cert.MemoryRefIdeal.nD Cert.MemoryRefIdeal.τ).loc Cert.MemoryRefIdeal.main_arg10) = m' ((c.tc : Thread Cert.MemoryRefIdeal.nD Cert.MemoryRefIdeal.τ).loc Cert.MemoryRefIdeal.main_arg10)
          ∧ r.2.mem ((c.tc : Thread Cert.MemoryRefIdeal.nD Cert.MemoryRefIdeal.τ).loc Cert.MemoryRefIdeal.main_arg11) = m' ((c.tc : Thread Cert.MemoryRefIdeal.nD Cert.MemoryRefIdeal.τ).loc Cert.MemoryRefIdeal.main_arg11)
          ∧ r.2.mem ((c.tc : Thread Cert.MemoryRefIdeal.nD Cert.MemoryRefIdeal.τ).loc Cert.MemoryRefIdeal.main_arg12) = m' ((c.tc : Thread Cert.MemoryRefIdeal.nD Cert.MemoryRefIdeal.τ).loc Cert.MemoryRefIdeal.main_arg12)
          ∧ r.2.mem ((c.tc : Thread Cert.MemoryRefIdeal.nD Cert.MemoryRefIdeal.τ).loc Cert.MemoryRefIdeal.main_arg13) = m' ((c.tc : Thread Cert.MemoryRefIdeal.nD Cert.MemoryRefIdeal.τ).loc Cert.MemoryRefIdeal.main_arg13))

def Claim : Prop :=
  ∃ (hAttention : Cert.Attention.Facts) (hAttentionIdeal : Cert.AttentionIdeal.Facts) (hAttentionRefIdeal : Cert.AttentionRefIdeal.Facts) (hMemory : Cert.Memory.Facts) (hMemoryIdeal : Cert.MemoryIdeal.Facts) (hMemoryRefIdeal : Cert.MemoryRefIdeal.Facts) (hPre_finite_attention : Cert.Pre_finite_attention.Facts) (hPre_finite_memory : Cert.Pre_finite_memory.Facts),
    quiescent_Attention (hAttention := hAttention)
    ∧ quiescent_AttentionIdeal (hAttentionIdeal := hAttentionIdeal)
    ∧ quiescent_AttentionIdeal_pre_finite_attention (hAttentionIdeal := hAttentionIdeal) (hPre_finite_attention := hPre_finite_attention)
    ∧ quiescent_AttentionRefIdeal (hAttentionRefIdeal := hAttentionRefIdeal)
    ∧ quiescent_AttentionRefIdeal_pre_finite_attention (hAttentionRefIdeal := hAttentionRefIdeal) (hPre_finite_attention := hPre_finite_attention)
    ∧ quiescent_Memory (hMemory := hMemory)
    ∧ quiescent_MemoryIdeal (hMemoryIdeal := hMemoryIdeal)
    ∧ quiescent_MemoryIdeal_pre_finite_memory (hMemoryIdeal := hMemoryIdeal) (hPre_finite_memory := hPre_finite_memory)
    ∧ quiescent_MemoryRefIdeal (hMemoryRefIdeal := hMemoryRefIdeal)
    ∧ quiescent_MemoryRefIdeal_pre_finite_memory (hMemoryRefIdeal := hMemoryRefIdeal) (hPre_finite_memory := hPre_finite_memory)
    ∧ preserves_Attention_AttentionIdeal
    ∧ algebraic_AttentionIdeal_AttentionRefIdeal_pre_finite_attention (hAttentionIdeal := hAttentionIdeal) (hAttentionRefIdeal := hAttentionRefIdeal) (hPre_finite_attention := hPre_finite_attention)
    ∧ preserves_Memory_MemoryIdeal
    ∧ algebraic_MemoryIdeal_MemoryRefIdeal_pre_finite_memory (hMemoryIdeal := hMemoryIdeal) (hMemoryRefIdeal := hMemoryRefIdeal) (hPre_finite_memory := hPre_finite_memory)
-- ==== Pre_finite_attention.lean ====
abbrev S4x8x256x1536 : Shape := ⟨4, ![4, 8, 256, 1536]⟩
abbrev S512x512 : Shape := ⟨2, ![512, 512]⟩
abbrev S_ : Shape := ⟨0, ![]⟩

class Facts : Prop where
  bitsLt_bf16_f32 : FTy.bits .bf16 < FTy.bits .f32
  bcast_S_S4x8x256x1536 : S_.BroadcastsInDim S4x8x256x1536 (![] : Fin 0 → Fin S4x8x256x1536.rank)
  reducesTo_S4x8x256x1536_S_d0_1_2_3 : S4x8x256x1536.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x8x256x1536 .bf16) (main_arg1 : FVec F S512x512 .f32) : IVec S_ 1 :=
  let main_v0 : FVec F S4x8x256x1536 .f32 := (extf .f32 · bitsLt_bf16_f32) main_arg0
  let main_v1 : FVec F S4x8x256x1536 .f32 := Host.absf main_v0
  let main_cst : FVec F S_ .f32 := constant S_ .f32 0x7F800000#32
  let main_v2 : FVec F S4x8x256x1536 .f32 := broadcastInDim S4x8x256x1536 ![] bcast_S_S4x8x256x1536 main_cst
  let main_v3 : IVec S4x8x256x1536 1 := cmpf .olt main_v1 main_v2
  let main_c : IVec S_ 1 := constantI S_ 1 1#1
  let main_v4 : IVec S_ 1 := (fun x v => Host.reduce IntOp.andi x v reducesTo_S4x8x256x1536_S_d0_1_2_3 h_S_) main_v3 main_c
  let main_v5 : FVec F S512x512 .f32 := Host.absf main_arg1
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  let main_c_1 : IVec S_ 1 := constantI S_ 1 1#1
  let main_v8 : IVec S_ 1 := (fun x v => Host.reduce IntOp.andi x v reducesTo_S512x512_S_d0_1 h_S_) main_v7 main_c_1
  let main_v9 : IVec S_ 1 := andi main_v4 main_v8
  main_v9
-- ==== Pre_finite_memory.lean ====
abbrev S4x1984x512 : Shape := ⟨3, ![4, 1984, 512]⟩
abbrev S64x512 : Shape := ⟨2, ![64, 512]⟩
abbrev S2x512x512 : Shape := ⟨3, ![2, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S4x1984x512 : S_.BroadcastsInDim S4x1984x512 (![] : Fin 0 → Fin S4x1984x512.rank)
  reducesTo_S4x1984x512_S_d0_1_2 : S4x1984x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x512 .f32) (main_arg12 : FVec F S512x512 .f32) (main_arg13 : FVec F S512x512 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_v63 main_v67

def fn_part2 {F : FTy → Type} [FloatOps F] (main_arg7 : FVec F S512x512 .f32) (main_arg8 : FVec F S512 .f32) (main_arg9 : FVec F S512x1 .f32) (main_arg10 : FVec F S1 .f32) (main_arg11 : FVec F S512x512 .f32) (main_arg12 : FVec F S512x512 .f32) (main_arg13 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) (main_arg11 : FVec F S512x512 .f32) (main_arg12 : FVec F S512x512 .f32) (main_arg13 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x1984x512 .f32) (main_arg1 : FVec F S64x512 .f32) (main_arg2 : FVec F S2x512x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) (main_arg11 : FVec F S512x512 .f32) (main_arg12 : FVec F S512x512 .f32) (main_arg13 : FVec F S512x512 .f32) : IVec S_ 1 :=
  let main_v0 : FVec F S4x1984x512 .f32 := Host.absf main_arg0
  let main_cst : FVec F S_ .f32 := constant S_ .f32 0x7F800000#32
  let main_v1 : FVec F S4x1984x512 .f32 := broadcastInDim S4x1984x512 ![] bcast_S_S4x1984x512 main_cst
  let main_v2 : IVec S4x1984x512 1 := cmpf .olt main_v0 main_v1
  let main_c : IVec S_ 1 := constantI S_ 1 1#1
  let main_v3 : IVec S_ 1 := (fun x v => Host.reduce IntOp.andi x v reducesTo_S4x1984x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_v13 main_v16
-- ==== Attention.lean ====
abbrev S4x8x256x1536 : Shape := ⟨4, ![4, 8, 256, 1536]⟩
abbrev S512x512 : Shape := ⟨2, ![512, 512]⟩
abbrev S4x2048x512 : Shape := ⟨3, ![4, 2048, 512]⟩
abbrev S1x4x256x512 : Shape := ⟨4, ![1, 4, 256, 512]⟩
abbrev S1x1x256x512 : Shape := ⟨4, ![1, 1, 256, 512]⟩
abbrev S1x1024x512 : Shape := ⟨3, ![1, 1024, 512]⟩
abbrev S1024x512 : Shape := ⟨2, ![1024, 512]⟩
abbrev S256x512 : Shape := ⟨2, ![256, 512]⟩
abbrev S1280x512 : Shape := ⟨2, ![1280, 512]⟩
abbrev S256x64 : Shape := ⟨2, ![256, 64]⟩
abbrev S512x64 : Shape := ⟨2, ![512, 64]⟩
abbrev S256 : Shape := ⟨1, ![256]⟩
abbrev S256x1 : Shape := ⟨2, ![256, 1]⟩
abbrev S512x256 : Shape := ⟨2, ![512, 256]⟩
abbrev S1024x256 : Shape := ⟨2, ![1024, 256]⟩

abbrev nBuf : Space → Nat
  | .hbm => 3
  | .vmem => 25
  | .smem => 0
  | _ => 0

abbrev bufTy : (tb : Table) → Fin (tcTables nBuf tb) → BufTy
  | .hbm, ⟨0, _⟩ => ⟨S4x8x256x1536, .bf16⟩
  | .hbm, ⟨1, _⟩ => ⟨S512x512, .f32⟩
  | .hbm, ⟨2, _⟩ => ⟨S4x2048x512, .f32⟩
  | .local _ .vmem, ⟨0, _⟩ => ⟨S1x4x256x512, .bf16⟩
  | .local _ .vmem, ⟨1, _⟩ => ⟨S1x4x256x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x1x256x512, .bf16⟩
  | .local _ .vmem, ⟨9, _⟩ => ⟨S1x1x256x512, .bf16⟩
  | .local _ .vmem, ⟨10, _⟩ => ⟨S1x1x256x512, .bf16⟩
  | .local _ .vmem, ⟨11, _⟩ => ⟨S1x1x256x512, .bf16⟩
  | .local _ .vmem, ⟨12, _⟩ => ⟨S1x1x256x512, .bf16⟩
  | .local _ .vmem, ⟨13, _⟩ => ⟨S1x1x256x512, .bf16⟩
  | .local _ .vmem, ⟨14, _⟩ => ⟨S1x1x256x512, .bf16⟩
  | .local _ .vmem, ⟨15, _⟩ => ⟨S1x1x256x512, .bf16⟩
  | .local _ .vmem, ⟨16, _⟩ => ⟨S1x1x256x512, .bf16⟩
  | .local _ .vmem, ⟨17, _⟩ => ⟨S1x1x256x512, .bf16⟩
  | .local _ .vmem, ⟨18, _⟩ => ⟨S1x1x256x512, .bf16⟩
  | .local _ .vmem, ⟨19, _⟩ => ⟨S1x1x256x512, .bf16⟩
  | .local _ .vmem, ⟨20, _⟩ => ⟨S1x1x256x512, .bf16⟩
  | .local _ .vmem, ⟨21, _⟩ => ⟨S1x1x256x512, .bf16⟩
  | .local _ .vmem, ⟨22, _⟩ => ⟨S512x512, .f32⟩
  | .local _ .vmem, ⟨23, _⟩ => ⟨S1x1024x512, .f32⟩
  | .local _ .vmem, ⟨24, _⟩ => ⟨S1x1024x512, .f32⟩
  | _, _ => ⟨S4x8x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  let c1_i32 : BitVec 32 := 1#32
  let c0_i32_1 : BitVec 32 := 0#32
  ![arg0.toNat, v2.toNat, c0_i32_0.toNat, c1_i32.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c1_i32 : BitVec 32 := 1#32
  let c0_i32_2 : BitVec 32 := 0#32
  ![arg0.toNat, v2.toNat, c0_i32_1.toNat, c1_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![arg0.toNat, v2.toNat, c0_i32_0.toNat, c1_i32_1.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let v2 : BitVec 32 := Scalar.maxsi v1 c0_i32
  let c0_i32_0 : BitVec 32 := 0#32
  let c1_i32 : BitVec 32 := 1#32
  let c0_i32_1 : BitVec 32 := 0#32
  ![arg0.toNat, v2.toNat, c0_i32_0.toNat, c1_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let v2 : BitVec 32 := Scalar.maxsi v1 c0_i32
  let c0_i32_0 : BitVec 32 := 0#32
  let c1_i32 : BitVec 32 := 1#32
  let c0_i32_1 : BitVec 32 := 0#32
  ![arg0.toNat, v2.toNat, c0_i32_0.toNat, c1_i32.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![arg0.toNat, v2.toNat, c0_i32_0.toNat, c2_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c2_i32 : BitVec 32 := 2#32
  let c0_i32_2 : BitVec 32 := 0#32
  ![arg0.toNat, v2.toNat, c0_i32_1.toNat, c2_i32.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![arg0.toNat, v2.toNat, c0_i32_0.toNat, c2_i32.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let v2 : BitVec 32 := Scalar.maxsi v1 c0_i32
  let c0_i32_0 : BitVec 32 := 0#32
  let c2_i32_1 : BitVec 32 := 2#32
  let c0_i32_2 : BitVec 32 := 0#32
  ![arg0.toNat, v2.toNat, c0_i32_0.toNat, c2_i32_1.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![arg0.toNat, v2.toNat, c0_i32_0.toNat, c2_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttentionIdeal.lean ====
variable {F : FTy → Type} [FloatOps F] [Named F]
def κ : String → Option EReal := fun
  | "mask" => some ⊥
  | _ => none
-- ==== AttentionRefIdeal.lean ====
abbrev S4x8x256x1536 : Shape := ⟨4, ![4, 8, 256, 1536]⟩
abbrev S512x512 : Shape := ⟨2, ![512, 512]⟩
abbrev S4x2048x3x8x64 : Shape := ⟨5, ![4, 2048, 3, 8, 64]⟩
abbrev S4x2048x1x8x64 : Shape := ⟨5, ![4, 2048, 1, 8, 64]⟩
abbrev S4x2048x8x64 : Shape := ⟨4, ![4, 2048, 8, 64]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x512 : Shape := ⟨3, ![4, 2048, 512]⟩

abbrev nBuf : Space → Nat
  | .hbm => 50
  | .vmem => 0
  | .smem => 0
  | _ => 0

abbrev bufTy : (tb : Table) → Fin (tcTables nBuf tb) → BufTy
  | .hbm, ⟨0, _⟩ => ⟨S4x8x256x1536, .bf16⟩
  | .hbm, ⟨1, _⟩ => ⟨S512x512, .f32⟩
  | .hbm, ⟨2, _⟩ => ⟨S4x8x256x1536, .f32⟩
  | .hbm, ⟨3, _⟩ => ⟨S4x2048x3x8x64, .f32⟩
  | .hbm, ⟨4, _⟩ => ⟨S4x2048x1x8x64, .f32⟩
  | .hbm, ⟨5, _⟩ => ⟨S4x2048x8x64, .f32⟩
  | .hbm, ⟨6, _⟩ => ⟨S4x2048x1x8x64, .f32⟩
  | .hbm, ⟨7, _⟩ => ⟨S4x2048x8x64, .f32⟩
  | .hbm, ⟨8, _⟩ => ⟨S4x2048x1x8x64, .f32⟩
  | .hbm, ⟨9, _⟩ => ⟨S4x2048x8x64, .f32⟩
  | .hbm, ⟨10, _⟩ => ⟨S4x8x2048x2048, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S2048x2048, .i1⟩
  | .hbm, ⟨26, _⟩ => ⟨S1x1x2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x64x2048, .f32⟩
  | .hbm, ⟨47, _⟩ => ⟨S4x2048x8x64, .f32⟩
  | .hbm, ⟨48, _⟩ => ⟨S4x2048x512, .f32⟩
  | .hbm, ⟨49, _⟩ => ⟨S4x2048x512, .f32⟩
  | _, _ => ⟨S4x8x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Memory.lean ====
abbrev S4x1984x512 : Shape := ⟨3, ![4, 1984, 512]⟩
abbrev S64x512 : Shape := ⟨2, ![64, 512]⟩
abbrev S2x512x512 : Shape := ⟨3, ![2, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512x1x1 : Shape := ⟨4, ![1, 512, 1, 1]⟩
abbrev S1x512x128x1 : Shape := ⟨4, ![1, 512, 128, 1]⟩
abbrev S512x128 : Shape := ⟨2, ![512, 128]⟩
abbrev S512x1152 : Shape := ⟨2, ![512, 1152]⟩
abbrev S128 : Shape := ⟨1, ![128]⟩
abbrev S1152 : Shape := ⟨1, ![1152]⟩
abbrev S1x1152 : Shape := ⟨2, ![1, 1152]⟩
abbrev S1x512x512 : Shape := ⟨3, ![1, 512, 512]⟩
abbrev S16 : Shape := ⟨1, ![16]⟩
abbrev S_ : Shape := ⟨0, ![]⟩
abbrev S512x1536 : Shape := ⟨2, ![512, 1536]⟩
abbrev S4x31x64x512 : Shape := ⟨4, ![4, 31, 64, 512]⟩
abbrev S1x512 : Shape := ⟨2, ![1, 512]⟩
abbrev S4x8x256x1536 : Shape := ⟨4, ![4, 8, 256, 1536]⟩
abbrev S4x1x64x512 : Shape := ⟨4, ![4, 1, 64, 512]⟩
abbrev S4x1x256x1536 : Shape := ⟨4, ![4, 1, 256, 1536]⟩
abbrev S1x1x64x512 : Shape := ⟨4, ![1, 1, 64, 512]⟩
abbrev S4x4x64x512 : Shape := ⟨4, ![4, 4, 64, 512]⟩
abbrev S1024x512 : Shape := ⟨2, ![1024, 512]⟩
abbrev S4x2x128x512 : Shape := ⟨4, ![4, 2, 128, 512]⟩
abbrev S4x1x128x512 : Shape := ⟨4, ![4, 1, 128, 512]⟩
abbrev S4x128x512 : Shape := ⟨3, ![4, 128, 512]⟩
abbrev S1x512x128 : Shape := ⟨3, ![1, 512, 128]⟩
abbrev S1x1x1 : Shape := ⟨3, ![1, 1, 1]⟩
abbrev S1x1 : Shape := ⟨2, ![1, 1]⟩
abbrev S1024x1536 : Shape := ⟨2, ![1024, 1536]⟩

abbrev nBuf : Space → Nat
  | .hbm => 49
  | .vmem => 23
  | .smem => 1
  | _ => 0

abbrev bufTy : (tb : Table) → Fin (tcTables nBuf tb) → BufTy
  | .hbm, ⟨0, _⟩ => ⟨S4x1984x512, .f32⟩
  | .hbm, ⟨1, _⟩ => ⟨S64x512, .f32⟩
  | .hbm, ⟨2, _⟩ => ⟨S2x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x1x1, .f32⟩
  | .hbm, ⟨15, _⟩ => ⟨S1x512x128x1, .f32⟩
  | .hbm, ⟨16, _⟩ => ⟨S512x128, .f32⟩
  | .hbm, ⟨17, _⟩ => ⟨S512x1152, .f32⟩
  | .hbm, ⟨18, _⟩ => ⟨S128, .f32⟩
  | .hbm, ⟨19, _⟩ => ⟨S1152, .f32⟩
  | .hbm, ⟨20, _⟩ => ⟨S1x1152, .f32⟩
  | .hbm, ⟨21, _⟩ => ⟨S1x512x512, .f32⟩
  | .hbm, ⟨22, _⟩ => ⟨S512x512, .f32⟩
  | .hbm, ⟨23, _⟩ => ⟨S512x512, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x1536, .f32⟩
  | .hbm, ⟨42, _⟩ => ⟨S4x31x64x512, .f32⟩
  | .hbm, ⟨43, _⟩ => ⟨S1x512x512, .f32⟩
  | .hbm, ⟨44, _⟩ => ⟨S512x512, .f32⟩
  | .hbm, ⟨45, _⟩ => ⟨S1x512x512, .f32⟩
  | .hbm, ⟨46, _⟩ => ⟨S512x512, .f32⟩
  | .hbm, ⟨47, _⟩ => ⟨S1x512, .f32⟩
  | .hbm, ⟨48, _⟩ => ⟨S4x8x256x1536, .bf16⟩
  | .local _ .vmem, ⟨0, _⟩ => ⟨S64x512, .f32⟩
  | .local _ .vmem, ⟨1, _⟩ => ⟨S4x1x64x512, .f32⟩
  | .local _ .vmem, ⟨2, _⟩ => ⟨S4x1x64x512, .f32⟩
  | .local _ .vmem, ⟨3, _⟩ => ⟨S4x1x64x512, .f32⟩
  | .local _ .vmem, ⟨4, _⟩ => ⟨S4x1x64x512, .f32⟩
  | .local _ .vmem, ⟨5, _⟩ => ⟨S4x1x64x512, .f32⟩
  | .local _ .vmem, ⟨6, _⟩ => ⟨S4x1x64x512, .f32⟩
  | .local _ .vmem, ⟨7, _⟩ => ⟨S4x1x64x512, .f32⟩
  | .local _ .vmem, ⟨8, _⟩ => ⟨S4x1x64x512, .f32⟩
  | .local _ .vmem, ⟨9, _⟩ => ⟨S512x1152, .f32⟩
  | .local _ .vmem, ⟨10, _⟩ => ⟨S1x1152, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S512x1536, .f32⟩
  | .local _ .vmem, ⟨17, _⟩ => ⟨S4x1x256x1536, .bf16⟩
  | .local _ .vmem, ⟨18, _⟩ => ⟨S4x1x256x1536, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .smem, ⟨0, _⟩ => ⟨S16, .f32⟩
  | _, _ => ⟨S4x1984x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32_19 : BitVec 32 := 8#32
  let v20 : BitVec 1 := Scalar.cmpi .slt arg0 c8_i32_19
  let v21 : BitVec 32 := Scalar.extui v20
  let c0_i32_20 : BitVec 32 := 0#32
  let v22 : BitVec 1 := Scalar.cmpi .ne v21 c0_i32_20
  v22

def k0_off1 (i : grid0.Coords) (c0_i32_29 : BitVec 32) : Fin 1 → Nat :=
  let c2_i32 : BitVec 32 := 2#32
  let arg0 : BitVec 32 := BitVec.ofNat 32 (i 0).val
  let v46 : BitVec 32 := Scalar.muli c2_i32 arg0
  let v47 : BitVec 32 := Scalar.addi v46 c0_i32_29
  let v48 : Index := Scalar.indexCast v47
  ![v48.toNat]
def k0_cond4 (i : grid0.Coords) : BitVec 1 :=
  let arg0 : BitVec 32 := BitVec.ofNat 32 (i 0).val
  let c8_i32_22 : BitVec 32 := 8#32
  let v26 : BitVec 1 := Scalar.cmpi .sge arg0 c8_i32_22
  let v27 : BitVec 32 := Scalar.extui v26
  let c0_i32_23 : BitVec 32 := 0#32
  let v28 : BitVec 1 := Scalar.cmpi .ne v27 c0_i32_23
  v28

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.remsi arg0 c8_i32
  let c4_i32 : BitVec 32 := 4#32
  let v1 : BitVec 32 := Scalar.muli c4_i32 v0
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  let c0_i32_3 : BitVec 32 := 0#32
  let c0_i32_4 : BitVec 32 := 0#32
  ![c0_i32_1.toNat, v4.toNat, c0_i32_2.toNat, c0_i32_3.toNat]

def cc0_transform_3 (i : grid0.Coords) : Fin 4 → Nat :=
  let arg0 : BitVec 32 := BitVec.ofNat 32 (i 0).val
  let c8_i32 : BitVec 32 := 8#32
  let v0 : BitVec 32 := Scalar.remsi arg0 c8_i32
  let c4_i32 : BitVec 32 := 4#32
  let v1 : BitVec 32 := Scalar.muli c4_i32 v0
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  let c0_i32_2 : BitVec 32 := 0#32
  let c0_i32_3 : BitVec 32 := 0#32
  let c0_i32_4 : BitVec 32 := 0#32
  ![c0_i32_1.toNat, v4.toNat, c0_i32_2.toNat, c0_i32_3.toNat]

def cc0_transform_4 (i : grid0.Coords) : Fin 4 → Nat :=
  let arg0 : BitVec 32 := BitVec.ofNat 32 (i 0).val
  let c8_i32 : BitVec 32 := 8#32
  let v0 : BitVec 32 := Scalar.remsi arg0 c8_i32
  let c4_i32 : BitVec 32 := 4#32
  let v1 : BitVec 32 := Scalar.muli c4_i32 v0
  let c2_i32 : BitVec 32 := 2#32
  let v2 : BitVec 32 := Scalar.addi v1 c2_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_5 (i : grid0.Coords) : Fin 4 → Nat :=
  let arg0 : BitVec 32 := BitVec.ofNat 32 (i 0).val
  let c8_i32 : BitVec 32 := 8#32
  let v0 : BitVec 32 := Scalar.remsi arg0 c8_i32
  let c4_i32 : BitVec 32 := 4#32
  let v1 : BitVec 32 := Scalar.muli c4_i32 v0
  let c3_i32 : BitVec 32 := 3#32
  let v2 : BitVec 32 := Scalar.addi v1 c3_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4x1x256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MemoryRefIdeal.lean ====
abbrev S4x1984x512 : Shape := ⟨3, ![4, 1984, 512]⟩
abbrev S64x512 : Shape := ⟨2, ![64, 512]⟩
abbrev S2x512x512 : Shape := ⟨3, ![2, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x64x512 : Shape := ⟨3, ![1, 64, 512]⟩
abbrev S4x64x512 : Shape := ⟨3, ![4, 64, 512]⟩
abbrev S4x2048x512 : Shape := ⟨3, ![4, 2048, 512]⟩
abbrev S1x1x512 : Shape := ⟨3, ![1, 1, 512]⟩
abbrev S4x16x128x512 : Shape := ⟨4, ![4, 16, 128, 512]⟩
abbrev S4x2048x1 : Shape := ⟨3, ![4, 2048, 1]⟩
abbrev S1x1x1 : Shape := ⟨3, ![1, 1, 1]⟩
abbrev S_ : Shape := ⟨0, ![]⟩
abbrev S4x16x128x1 : Shape := ⟨4, ![4, 16, 128, 1]⟩
abbrev S1x512x512 : Shape := ⟨3, ![1, 512, 512]⟩
abbrev S4x16x128 : Shape := ⟨3, ![4, 16, 128]⟩
abbrev S16x4x128x1 : Shape := ⟨4, ![16, 4, 128, 1]⟩
abbrev S16x4x128 : Shape := ⟨3, ![16, 4, 128]⟩
abbrev S16 : Shape := ⟨1, ![16]⟩
abbrev S4x128 : Shape := ⟨2, ![4, 128]⟩
abbrev S1x4x128 : Shape := ⟨3, ![1, 4, 128]⟩
abbrev S16x4x128x512 : Shape := ⟨4, ![16, 4, 128, 512]⟩
abbrev S16x512x512 : Shape := ⟨3, ![16, 512, 512]⟩
abbrev S16x1x512x512 : Shape := ⟨4, ![16, 1, 512, 512]⟩
abbrev S16x2x512x512 : Shape := ⟨4, ![16, 2, 512, 512]⟩
abbrev S2x16x512x512 : Shape := ⟨4, ![2, 16, 512, 512]⟩
abbrev S4x16x1 : Shape := ⟨3, ![4, 16, 1]⟩
abbrev S4x16 : Shape := ⟨2, ![4, 16]⟩
abbrev S1x16 : Shape := ⟨2, ![1, 16]⟩
abbrev S1x16x1x1 : Shape := ⟨4, ![1, 16, 1, 1]⟩
abbrev S4x2048x1536 : Shape := ⟨3, ![4, 2048, 1536]⟩
abbrev S4x8x256x1536 : Shape := ⟨4, ![4, 8, 256, 1536]⟩

abbrev nBuf : Space → Nat
  | .hbm => 218
  | .vmem => 0
  | .smem => 0
  | _ => 0

abbrev hbmTy0_0 (i : Nat) : BufTy := match i % 128 with
  | 0 => ⟨S4x1984x512, .f32⟩
  | 1 => ⟨S64x512, .f32⟩
  | 2 => ⟨S2x512x512, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x1, .f32⟩
  | 10 => ⟨S1, .f32⟩
  | 11 => ⟨S512x512, .f32⟩
  | 12 => ⟨S512x512, .f32⟩
  | 13 => ⟨S512x512, .f32⟩
  | 14 => ⟨S1x64x512, .f32⟩
  | 15 => ⟨S4x64x512, .f32⟩
  | 16 => ⟨S4x2048x512, .f32⟩
  | 17 => ⟨S4x2048x512, .f32⟩
  | 18 => ⟨S1x1x512, .f32⟩
  | 19 => ⟨S4x2048x512, .f32⟩
  | 20 => ⟨S4x2048x512, .f32⟩
  | 21 => ⟨S4x16x128x512, .f32⟩
  | 22 => ⟨S4x2048x512, .f32⟩
  | 23 => ⟨S1x1x512, .f32⟩
  | 24 => ⟨S4x2048x512, .f32⟩
  | 25 => ⟨S4x2048x512, .f32⟩
  | 26 => ⟨S4x16x128x512, .f32⟩
  | 27 => ⟨S4x2048x1, .f32⟩
  | 28 => ⟨S1x1x1, .f32⟩
  | 29 => ⟨S4x2048x1, .f32⟩
  | 30 => ⟨S4x2048x1, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S_, .f32⟩
  | 40 => ⟨S4x2048x1, .f32⟩
  | 41 => ⟨S4x2048x1, .f32⟩
  | 42 => ⟨S4x16x128x1, .f32⟩
  | 43 => ⟨S4x2048x512, .f32⟩
  | 44 => ⟨S1x1x512, .f32⟩
  | 45 => ⟨S4x2048x512, .f32⟩
  | 46 => ⟨S4x2048x512, .f32⟩
  | 47 => ⟨S1x512x512, .f32⟩
  | 48 => ⟨S512x512, .f32⟩
  | 49 => ⟨S4x16x128x512, .f32⟩
  | 50 => ⟨S4x16x128x512, .f32⟩
  | 51 => ⟨S4x16x128x512, .f32⟩
  | 52 => ⟨S_, .f32⟩
  | 53 => ⟨S4x16x128x512, .f32⟩
  | 54 => ⟨S4x16x128x512, .f32⟩
  | 55 => ⟨S_, .f32⟩
  | 56 => ⟨S4x16x128x512, .f32⟩
  | 57 => ⟨S4x16x128x512, .f32⟩
  | 58 => ⟨S_, .f32⟩
  | 59 => ⟨S4x16x128x512, .f32⟩
  | 60 => ⟨S4x16x128x512, .f32⟩
  | 61 => ⟨S4x16x128x512, .f32⟩
  | 62 => ⟨S4x16x128x512, .f32⟩
  | 63 => ⟨S4x16x128x512, .f32⟩
  | 64 => ⟨S1x512x512, .f32⟩
  | 65 => ⟨S512x512, .f32⟩
  | 66 => ⟨S4x16x128x512, .f32⟩
  | 67 => ⟨S4x16x128x512, .f32⟩
  | 68 => ⟨S4x16x128x512, .f32⟩
  | 69 => ⟨S_, .f32⟩
  | 70 => ⟨S4x16x128x512, .f32⟩
  | 71 => ⟨S4x16x128x512, .f32⟩
  | 72 => ⟨S_, .f32⟩
  | 73 => ⟨S4x16x128x512, .f32⟩
  | 74 => ⟨S4x16x128x512, .f32⟩
  | 75 => ⟨S_, .f32⟩
  | 76 => ⟨S4x16x128x512, .f32⟩
  | 77 => ⟨S4x16x128x512, .f32⟩
  | 78 => ⟨S4x16x128x512, .f32⟩
  | 79 => ⟨S4x16x128x512, .f32⟩
  | 80 => ⟨S4x16x128x512, .f32⟩
  | 81 => ⟨S4x16x128x512, .f32⟩
  | 82 => ⟨S4x16x128x512, .f32⟩
  | 83 => ⟨S_, .f32⟩
  | 84 => ⟨S4x16x128x512, .f32⟩
  | 85 => ⟨S4x16x128x512, .f32⟩
  | 86 => ⟨S_, .f32⟩
  | 87 => ⟨S4x16x128, .f32⟩
  | 88 => ⟨S_, .f32⟩
  | 89 => ⟨S4x16x128, .f32⟩
  | 90 => ⟨S4x16x128, .f32⟩
  | 91 => ⟨S16x4x128x1, .f32⟩
  | 92 => ⟨S16x4x128, .f32⟩
  | 93 => ⟨S16x4x128, .f32⟩
  | 94 => ⟨S16x4x128, .f32⟩
  | 95 => ⟨S_, .f32⟩
  | 96 => ⟨S16, .f32⟩
  | 97 => ⟨S_, .f32⟩
  | 98 => ⟨S4x128, .f32⟩
  | 99 => ⟨S1x4x128, .f32⟩
  | 100 => ⟨S16x4x128, .f32⟩
  | 101 => ⟨S16x4x128, .f32⟩
  | 102 => ⟨S_, .f32⟩
  | 103 => ⟨S16x4x128, .f32⟩
  | 104 => ⟨S16x4x128, .f32⟩
  | 105 => ⟨S16x4x128x512, .f32⟩
  | 106 => ⟨S16x4x128x512, .f32⟩
  | 107 => ⟨S16x4x128x512, .f32⟩
  | 108 => ⟨S16x4x128x512, .f32⟩
  | 109 => ⟨S16x4x128x512, .f32⟩
  | 110 => ⟨S16x4x128x512, .f32⟩
  | 111 => ⟨S16x4x128x512, .f32⟩
  | 112 => ⟨S16x4x128x512, .f32⟩
  | 113 => ⟨S16x4x128x512, .f32⟩
  | 114 => ⟨S16x4x128x512, .f32⟩
  | 115 => ⟨S16x512x512, .f32⟩
  | 116 => ⟨S16x512x512, .f32⟩
  | 117 => ⟨S16x4x128x512, .f32⟩
  | 118 => ⟨S16x4x128x512, .f32⟩
  | 119 => ⟨S16x1x512x512, .f32⟩
  | 120 => ⟨S_, .f32⟩
  | 121 => ⟨S16x2x512x512, .f32⟩
  | 122 => ⟨S16x4x128x512, .f32⟩
  | 123 => ⟨S16x4x128x512, .f32⟩
  | 124 => ⟨S16x4x128x512, .f32⟩
  | 125 => ⟨S16x4x128x512, .f32⟩
  | 126 => ⟨S16x4x128x512, .f32⟩
  | 127 => ⟨S16x4x128x512, .f32⟩
  | _ => ⟨S4x1984x512, .f32⟩

abbrev hbmTy0_1 (i : Nat) : BufTy := match i % 128 with
  | 0 => ⟨S16x4x128x512, .f32⟩
  | 1 => ⟨S16x512x512, .f32⟩
  | 2 => ⟨S16x512x512, .f32⟩
  | 3 => ⟨S16x1x512x512, .f32⟩
  | 4 => ⟨S_, .f32⟩
  | 5 => ⟨S16x2x512x512, .f32⟩
  | 6 => ⟨S16x2x512x512, .f32⟩
  | 7 => ⟨S2x16x512x512, .f32⟩
  | 8 => ⟨S_, .f32⟩
  | 9 => ⟨S4x16x1, .f32⟩
  | 10 => ⟨S_, .f32⟩
  | 11 => ⟨S4x16x1, .f32⟩
  | 12 => ⟨S4x16x1, .f32⟩
  | 13 => ⟨S4x16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S1x16, .f32⟩
  | 22 => ⟨S4x16, .f32⟩
  | 23 => ⟨S4x16, .f32⟩
  | 24 => ⟨S_, .f32⟩
  | 25 => ⟨S16, .f32⟩
  | 26 => ⟨S_, .f32⟩
  | 27 => ⟨S16, .f32⟩
  | 28 => ⟨S16, .f32⟩
  | 29 => ⟨S1x16x1x1, .f32⟩
  | 30 => ⟨S2x16x512x512, .f32⟩
  | 31 => ⟨S2x16x512x512, .f32⟩
  | 32 => ⟨S_, .f32⟩
  | 33 => ⟨S_, .f32⟩
  | 34 => ⟨S2x16x512x512, .f32⟩
  | 35 => ⟨S2x16x512x512, .f32⟩
  | 36 => ⟨S2x16x512x512, .f32⟩
  | 37 => ⟨S_, .f32⟩
  | 38 => ⟨S2x512x512, .f32⟩
  | 39 => ⟨S_, .f32⟩
  | 40 => ⟨S2x512x512, .f32⟩
  | 41 => ⟨S2x512x512, .f32⟩
  | 42 => ⟨S_, .f32⟩
  | 43 => ⟨S2x512x512, .f32⟩
  | 44 => ⟨S2x512x512, .f32⟩
  | 45 => ⟨S2x512x512, .f32⟩
  | 46 => ⟨S_, .f32⟩
  | 47 => ⟨S2x512x512, .f32⟩
  | 48 => ⟨S2x512x512, .f32⟩
  | 49 => ⟨S2x512x512, .f32⟩
  | 50 => ⟨S_, .f32⟩
  | 51 => ⟨S2x512x512, .f32⟩
  | 52 => ⟨S2x512x512, .f32⟩
  | 53 => ⟨S2x512x512, .f32⟩
  | 54 => ⟨S2x512x512, .f32⟩
  | 55 => ⟨S1x512x512, .f32⟩
  | 56 => ⟨S512x512, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .f32⟩
  | 63 => ⟨S_, .f32⟩
  | 64 => ⟨S4x2048x512, .f32⟩
  | 65 => ⟨S4x2048x512, .f32⟩
  | 66 => ⟨S4x2048x512, .f32⟩
  | 67 => ⟨S4x2048x512, .f32⟩
  | 68 => ⟨S1x512x512, .f32⟩
  | 69 => ⟨S512x512, .f32⟩
  | 70 => ⟨S4x2048x512, .f32⟩
  | 71 => ⟨S4x2048x512, .f32⟩
  | 72 => ⟨S4x2048x512, .f32⟩
  | 73 => ⟨S_, .f32⟩
  | 74 => ⟨S4x2048x512, .f32⟩
  | 75 => ⟨S4x2048x512, .f32⟩
  | 76 => ⟨S_, .f32⟩
  | 77 => ⟨S4x2048x512, .f32⟩
  | 78 => ⟨S4x2048x512, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S4x2048x512, .f32⟩
  | 87 => ⟨S4x2048x1536, .f32⟩
  | 88 => ⟨S4x8x256x1536, .f32⟩
  | 89 => ⟨S4x8x256x1536, .bf16⟩
  | _ => ⟨S4x1984x512, .f32⟩

abbrev hbmTy (i : Nat) : BufTy := match i / 128 with
  | 0 => hbmTy0_0 i
  | 1 => hbmTy0_1 i
  | _ => ⟨S4x1984x512, .f32⟩

abbrev bufTy : (tb : Table) → Fin (tcTables nBuf tb) → BufTy
  | .hbm, ⟨i, _⟩ => hbmTy i
  | _, _ => ⟨S4x1984x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v33_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v33_1 : Ref sig .tc := ⟨.hbm, 61, rfl⟩
abbrev main_v33_0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_v38_2 : Ref sig .tc := ⟨.hbm, 74, rfl⟩
abbrev main_call1_cst_1 : Ref sig .tc := ⟨.hbm, 75, rfl⟩
abbrev main_call1_v6 : Ref sig .tc := ⟨.hbm, 76, rfl⟩
abbrev main_call1_v7 : Ref sig .tc := ⟨.hbm, 77, rfl⟩
abbrev main_v38_1 : Ref sig .tc := ⟨.hbm, 78, rfl⟩
abbrev main_v38_0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_2 : Ref sig .tc := ⟨.hbm, 83, rfl⟩
abbrev main_v42 : Ref sig .tc := ⟨.hbm, 84, rfl⟩
abbrev main_v43 : Ref sig .tc := ⟨.hbm, 85, rfl⟩
abbrev main_cst_3 : Ref sig .tc := ⟨.hbm, 86, rfl⟩
abbrev main_v44 : Ref sig .tc := ⟨.hbm, 87, rfl⟩
abbrev main_cst_4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_5 : Ref sig .tc := ⟨.hbm, 95, rfl⟩
abbrev main_v51 : Ref sig .tc := ⟨.hbm, 96, rfl⟩
abbrev main_cst_6 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_7 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_8 : Ref sig .tc := ⟨.hbm, 120, rfl⟩
abbrev main_v67 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_cst_9 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_10 : Ref sig .tc := ⟨.hbm, 136, rfl⟩
abbrev main_v75 : Ref sig .tc := ⟨.hbm, 137, rfl⟩
abbrev main_cst_11 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_12 : Ref sig .tc := ⟨.hbm, 143, rfl⟩
abbrev main_v80 : Ref sig .tc := ⟨.hbm, 144, rfl⟩
abbrev main_v81 : Ref sig .tc := ⟨.hbm, 145, rfl⟩
abbrev main_cst_13 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_14 : Ref sig .tc := ⟨.hbm, 152, rfl⟩
abbrev main_v87 : Ref sig .tc := ⟨.hbm, 153, rfl⟩
abbrev main_cst_15 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_call4_call0_cst : Ref sig .tc := ⟨.hbm, 160, rfl⟩
abbrev main_call4_call0_v0 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_16 : Ref sig .tc := ⟨.hbm, 165, rfl⟩
abbrev main_v96 : Ref sig .tc := ⟨.hbm, 166, rfl⟩
abbrev main_cst_17 : Ref sig .tc := ⟨.hbm, 167, rfl⟩
abbrev main_v97 : Ref sig .tc := ⟨.hbm, 168, rfl⟩
abbrev main_v98 : Ref sig .tc := ⟨.hbm, 169, rfl⟩
abbrev main_cst_18 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_19 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_20 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_call5_v0 : Ref sig .tc := ⟨.hbm, 186, rfl⟩
abbrev main_call5_v1 : Ref sig .tc := ⟨.hbm, 187, rfl⟩
abbrev main_call5_cst : Ref sig .tc := ⟨.hbm, 188, rfl⟩
abbrev main_call5_v2 : Ref sig .tc := ⟨.hbm, 189, rfl⟩
abbrev main_call5_v3 : Ref sig .tc := ⟨.hbm, 190, rfl⟩
abbrev main_call5_cst_0 : Ref sig .tc := ⟨.hbm, 191, rfl⟩
abbrev main_call5_v4 : Ref sig .tc := ⟨.hbm, 192, rfl⟩
abbrev main_call5_v5 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_call6_v0 : Ref sig .tc := ⟨.hbm, 199, rfl⟩
abbrev main_call6_v1 : Ref sig .tc := ⟨.hbm, 200, rfl⟩
abbrev main_call6_cst : Ref sig .tc := ⟨.hbm, 201, rfl⟩
abbrev main_call6_v2 : Ref sig .tc := ⟨.hbm, 202, rfl⟩
abbrev main_call6_v3 : Ref sig .tc := ⟨.hbm, 203, rfl⟩
abbrev main_call6_cst_0 : Ref sig .tc := ⟨.hbm, 204, rfl⟩
abbrev main_call6_v4 : Ref sig .tc := ⟨.hbm, 205, rfl⟩
abbrev main_call6_v5 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_21 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩

abbrev nD : Nat := 1
abbrev τ : Topo := Topo.v7x

variable {F : FTy → Type} [FloatOps F]
-- ==== Proof.Tile.lean ====
/- One query tile of the attention kernel as a function of its query rows, its key and value windows, its bias and the
   output weights: the body's four unrolled tiles of eight unrolled heads are four uses of this one function. -/
module

public import proofs.«01_k».proof.Proof.Gen.AttentionIdeal.Frame

@[expose] public section

set_option maxRecDepth 16384

noncomputable section

namespace Cert.AttentionIdeal.Tile

open Cert.AttentionIdeal Cert.AttentionIdeal.Gen Idealize.ShloMosaic Idealize.ShloMosaic.TcCoe

variable {F : FTy → Type} [FloatOps F] [Named F]

theorem slices_q (h : Fin 8) : S256x512.Slices ![0, 64 * h.val] S256x64 := by revert h; decide
theorem slices_k (h : Fin 8) : S512x512.Slices ![0, 64 * h.val] S512x64 := by revert h; decide
theorem slices_v (g : Fin 2) : S512x512.Slices ![0, 256 * g.val] S512x256 := by revert g; decide
theorem slices_o (a : Fin 4) : S1024x256.Slices ![256 * a.val, 64 * a.val] S256x64 := by revert a; decide

/-- Head `h`'s exponentiated masked scores of a query tile against its key window. -/
def expScore (h : Fin 8) (q : FVec F S256x512 .f32) (k : FVec F S512x512 .f32) (bias : FVec F S256x512 .f32) : FVec F S256x512 .f32 :=
  exp (addf (matmul dot_S256x64_S512x64_S256x512_1_1_0_0_n_n none (extractStridedSlice S256x64 ![0, 64 * h.val] q (slices_q h))
    (extractStridedSlice S512x64 ![0, 64 * h.val] k (slices_k h)) (constant S256x512 .f32 0x00000000#32)) bias)

/-- The row sums of a head's exponentiated scores, as a column. -/
def rowSum (e : FVec F S256x512 .f32) : FVec F S256x1 .f32 :=
  shapeCast S256x1 (multiReduction .add [1] S256 e 0x00000000#32 reduces_S256x512_S256 (.inl rfl) rfl) shapeCasts_S256_S256x1

/-- Four heads' exponentiated scores, stacked, times the four heads' value columns. -/
def group (g : Fin 2) (v : FVec F S512x512 .f32) (e0 e1 e2 e3 : FVec F S256x512 .f32) : FVec F S1024x256 .f32 :=
  matmul dot_S1024x512_S512x256_S1024x256_1_0_0_1_n_n none
    (concatenate S1024x512 0 [⟨S256x512, e0⟩, ⟨S256x512, e1⟩, ⟨S256x512, e2⟩, ⟨S256x512, e3⟩] concatenates_S256x512_S256x512_S256x512_S256x512_S1024x512_d0)
    (extractStridedSlice S512x256 ![0, 256 * g.val] v (slices_v g)) (constant S1024x256 .f32 0x00000000#32)

/-- Head `a` of a group: its diagonal block of the group's product over its row sums. -/
def headOut (a : Fin 4) (og : FVec F S1024x256 .f32) (den : FVec F S256x1 .f32) : FVec F S256x64 .f32 :=
  divf (extractStridedSlice S256x64 ![256 * a.val, 64 * a.val] og (slices_o a)) (broadcastTo S256x64 den broadcasts_S256x1_S256x64)

/-- The heads' outputs of a query tile, side by side. -/
def heads (q : FVec F S256x512 .f32) (k v : FVec F S512x512 .f32) (bias : FVec F S256x512 .f32) : FVec F S256x512 .f32 :=
  concatenate S256x512 1 [
    ⟨S256x64, headOut 0 (group 0 v (expScore 0 q k bias) (expScore 1 q k bias) (expScore 2 q k bias) (expScore 3 q k bias)) (rowSum (expScore 0 q k bias))⟩,
    ⟨S256x64, headOut 1 (group 0 v (expScore 0 q k bias) (expScore 1 q k bias) (expScore 2 q k bias) (expScore 3 q k bias)) (rowSum (expScore 1 q k bias))⟩,
    ⟨S256x64, headOut 2 (group 0 v (expScore 0 q k bias) (expScore 1 q k bias) (expScore 2 q k bias) (expScore 3 q k bias)) (rowSum (expScore 2 q k bias))⟩,
    ⟨S256x64, headOut 3 (group 0 v (expScore 0 q k bias) (expScore 1 q k bias) (expScore 2 q k bias) (expScore 3 q k bias)) (rowSum (expScore 3 q k bias))⟩,
    ⟨S256x64, headOut 0 (group 1 v (expScore 4 q k bias) (expScore 5 q k bias) (expScore 6 q k bias) (expScore 7 q k bias)) (rowSum (expScore 4 q k bias))⟩,
    ⟨S256x64, headOut 1 (group 1 v (expScore 4 q k bias) (expScore 5 q k bias) (expScore 6 q k bias) (expScore 7 q k bias)) (rowSum (expScore 5 q k bias))⟩,
    ⟨S256x64, headOut 2 (group 1 v (expScore 4 q k bias) (expScore 5 q k bias) (expScore 6 q k bias) (expScore 7 q k bias)) (rowSum (expScore 6 q k bias))⟩,
    ⟨S256x64, headOut 3 (group 1 v (expScore 4 q k bias) (expScore 5 q k bias) (expScore 6 q k bias) (expScore 7 q k bias)) (rowSum (expScore 7 q k bias))⟩]
    concatenates_S256x64_S256x64_S256x64_S256x64_S256x64_S256x64_S256x64_S256x64_S256x512_d1

/-- A query tile's output: its heads side by side, times the output weights. -/
def tile (q : FVec F S256x512 .f32) (k v : FVec F S512x512 .f32) (bias : FVec F S256x512 .f32) (wo : FVec F S512x512 .f32) : FVec F S256x512 .f32 :=
  matmul dot_S256x512_S512x512_S256x512_1_0_0_1_n_n none (heads q k v bias) wo (constant S256x512 .f32 0x00000000#32)

theorem slices_qrow (t : Fin 4) : S1024x512.Slices ![256 * t.val, 0] S256x512 := by revert t; decide
theorem slices_krow (t : Fin 4) : S1280x512.Slices ![256 * t.val, 0] S512x512 := by revert t; decide

/-- The bias of query tile `t` of a block: the window's mask, and below the array's start no key. -/
def bias (arg1 : BitVec 32) (t : Fin 4) : FVec F S256x512 .f32 :=
  addf (k0_pay9 (F := F)) (Scalar.select (Scalar.cmpi .eq (Scalar.addi (Scalar.muli 4#32 arg1) (BitVec.ofNat 32 t.val)) 0#32) (k0_pay10 (F := F))
    (broadcast S256x512 (Scalar.ofBits .f32 0x00000000#32)))

/-- Query tile `t` of a block from the block's queries and its key and value windows. -/
def tileOf (arg1 : BitVec 32) (t : Fin 4) (q : FVec F S1024x512 .f32) (k v : FVec F S1280x512 .f32) (wo : FVec F S512x512 .f32) : FVec F S256x512 .f32 :=
  tile (extractStridedSlice S256x512 ![256 * t.val, 0] q (slices_qrow t)) (extractStridedSlice S512x512 ![256 * t.val, 0] k (slices_krow t))
    (extractStridedSlice S512x512 ![256 * t.val, 0] v (slices_krow t)) (bias arg1 t) wo

/-- The key (or value) rows a block reads: its five windows one below the other. -/
def rows5 (x1 x2 x3 x4 x5 : Vec F S1x1x256x512 .bf16) : FVec F S1280x512 .f32 := k0_pay3 x1 x2 x3 x4 x5

/-- The output block of a grid point from its windows' blocks. -/
def blockOut (arg1 : BitVec 32) (x0 : Vec F S1x4x256x512 .bf16) (x1 x2 x3 x4 x5 x6 x7 x8 x9 x10 : Vec F S1x1x256x512 .bf16) (x11 : Vec F S512x512 .f32) : FVec F S1x1024x512 .f32 :=
  k0_pay1 (tileOf arg1 0 (k0_pay2 x0) (rows5 x1 x2 x3 x4 x5) (rows5 x6 x7 x8 x9 x10) x11)
    (tileOf arg1 1 (k0_pay2 x0) (rows5 x1 x2 x3 x4 x5) (rows5 x6 x7 x8 x9 x10) x11)
    (tileOf arg1 2 (k0_pay2 x0) (rows5 x1 x2 x3 x4 x5) (rows5 x6 x7 x8 x9 x10) x11)
    (tileOf arg1 3 (k0_pay2 x0) (rows5 x1 x2 x3 x4 x5) (rows5 x6 x7 x8 x9 x10) x11)

set_option maxHeartbeats 4000000 in
/-- What the body leaves in the output window's buffer is `blockOut` of the blocks it loads. -/
theorem out_eq (i : grid0.Coords) (x0 : Vec F S1x4x256x512 .bf16) (x1 x2 x3 x4 x5 x6 x7 x8 x9 x10 : Vec F S1x1x256x512 .bf16) (x11 : Vec F S512x512 .f32) :
    out0_12 i x0 x1 x2 x3 x4 x5 x6 x7 x8 x9 x10 x11 = View.canon [⟨r0_3, blockOut (BitVec.ofNat 32 (i 1).val) (View.ld x0 r0_0) (View.ld x1 r0_1) (View.ld x2 r0_1)
      (View.ld x3 r0_1) (View.ld x4 r0_1) (View.ld x5 r0_1) (View.ld x6 r0_1) (View.ld x7 r0_1) (View.ld x8 r0_1) (View.ld x9 r0_1) (View.ld x10 r0_1) (View.ld x11 r0_2)⟩] := by
  rfl

end Cert.AttentionIdeal.Tile

end
-- ==== Proof.Bias.lean ====
/- The bias of a query tile: zero at the keys that its rows attend to, −∞ elsewhere. -/
module

public import proofs.«01_k».proof.Proof.Tile
public import Idealize.ShloMosaic.Lib.Pointwise
public import Idealize.ShloMosaic.Lib.WordCmp

@[expose] public section

set_option maxRecDepth 16384

noncomputable section

namespace Cert.AttentionIdeal.Tile

open Cert.AttentionIdeal Cert.AttentionIdeal.Gen Idealize.ShloMosaic Idealize.ShloMosaic.TcCoe

/-- Query tile `T` of the sequence attends, from its row `r`, to place `c` of its key window: in the tile before it to the
    places after `r` (and there is a tile before it), in its own tile to the places up to `r`. -/
def Mk (T : ℕ) (r : Fin 256) (c : Fin 512) : Prop := if c.val < 256 then r.val < c.val ∧ T ≠ 0 else c.val - 256 ≤ r.val

instance (T : ℕ) (r : Fin 256) (c : Fin 512) : Decidable (Mk T r c) := by unfold Mk; infer_instance

/-- Whether a query tile is the sequence's first, as the kernel asks it of the grid's second coordinate. -/
theorem first_tile : ∀ (tt : Fin 2) (t : Fin 4),
    Scalar.cmpi .eq (Scalar.addi (Scalar.muli 4#32 (BitVec.ofNat 32 tt.val)) (BitVec.ofNat 32 t.val)) 0#32 = if 4 * tt.val + t.val = 0 then 1#1 else 0#1 := by
  decide

/-- A comparison of two index words is one of the numbers they hold. -/
theorem slt_word (a b : ℕ) (ha : a < 4096) (hb : b < 4096) : IntOp.cmpi .slt (BitVec.ofNat 32 a) (BitVec.ofNat 32 b) = if a < b then 1#1 else 0#1 := by
  rw [WordCmp.cmpi_slt_ofNat (by omega) (by omega)]
  by_cases h : a < b <;> simp [h]

/-- Whether an index word is at least another one less 256, that one at least 256. -/
theorem sge_word (a b : ℕ) (ha : a < 4096) (hb : b < 4096) (h256 : 256 ≤ b) :
    IntOp.cmpi .sge (BitVec.ofNat 32 a) (IntOp.subi (BitVec.ofNat 32 b) 256#32) = if b - 256 ≤ a then 1#1 else 0#1 := by
  have e : IntOp.subi (BitVec.ofNat 32 b) 256#32 = BitVec.ofNat 32 (b - 256) := by
    apply BitVec.eq_of_toNat_eq
    show (BitVec.ofNat 32 b - 256#32).toNat = _
    simp only [BitVec.toNat_sub, BitVec.toNat_ofNat]
    omega
  rw [e, WordCmp.cmpi_sge_ofNat (by omega) (by omega)]
  by_cases h : b - 256 ≤ a <;> simp [h]

/-- The bias at an index: zero where the row attends to the key, −∞ elsewhere. -/
theorem bias_apply (tt : Fin 2) (t : Fin 4) (r : Fin 256) (c : Fin 512) :
    bias (F := Ideal) (BitVec.ofNat 32 tt.val) t (ix2 r c) = if Mk (4 * tt.val + t.val) r c then (0 : EReal) else ⊥ := by
  have hm : Named.named (F := Ideal) (φ := .f32) κ "mask" 0xCE6E6B28#32 = (⊥ : EReal) := IdealRules.named_const.ideal_named_scalar κ "mask" _ _ rfl
  have hr := r.isLt
  have hc := c.isLt
  unfold bias k0_pay9 k0_pay10 k0_pay8
  pointwise [first_tile]
  rw [hm, slt_word c.val 256 (by omega) (by omega), slt_word r.val c.val (by omega) (by omega)]
  generalize 4 * tt.val + t.val = T
  by_cases h : c.val < 256
  · by_cases h2 : r.val < c.val <;> by_cases h3 : T = 0 <;> simp [Mk, h, h2, h3, Scalar.select]
  · rw [sge_word r.val c.val (by omega) (by omega) (by omega)]
    by_cases h2 : c.val - 256 ≤ r.val <;> by_cases h3 : T = 0 <;> simp [Mk, h, h2, h3, Scalar.select]

end Cert.AttentionIdeal.Tile

end
-- ==== Proof.TileValue.lean ====
/- A query tile's output read at an index, over the extended reals. -/
module

public import proofs.«01_k».proof.Proof.Tile
public import Idealize.ShloMosaic.Lib.Pointwise

@[expose] public section

set_option maxRecDepth 16384

noncomputable section

namespace Cert.AttentionIdeal.Tile

open Cert.AttentionIdeal Cert.AttentionIdeal.Gen Idealize.ShloMosaic Idealize.ShloMosaic.TcCoe

/-- Column `64 h + d` of the 512 columns. -/
def col (h : Fin 8) (d : Fin 64) : Fin 512 := ⟨64 * h.val + d.val, by omega⟩

theorem expScore_apply (h : Fin 8) (q : FVec Ideal S256x512 .f32) (k : FVec Ideal S512x512 .f32) (bias : FVec Ideal S256x512 .f32) (r : Fin 256) (c : Fin 512) :
    expScore h q k bias (ix2 r c) = Ideal.exp ((∑ d : Fin 64, (q (ix2 r (col h d)) : EReal) * k (ix2 c (col h d))) + bias (ix2 r c)) := by
  unfold expScore col
  pointwise
  done

theorem rowSum_apply (e : FVec Ideal S256x512 .f32) (r : Fin 256) : rowSum e (ix2 r 0) = ∑ c : Fin 512, (e (ix2 r c) : EReal) := by
  unfold rowSum
  pointwise
  done

/-- The four matrices of a group by number. -/
def pick {α : Type} (e0 e1 e2 e3 : α) (a : Fin 4) : α := match a with
  | ⟨0, _⟩ => e0
  | ⟨1, _⟩ => e1
  | ⟨2, _⟩ => e2
  | ⟨3, _⟩ => e3

theorem headOut_group_apply (a : Fin 4) (g : Fin 2) (v : FVec Ideal S512x512 .f32) (e0 e1 e2 e3 : FVec Ideal S256x512 .f32) (den : FVec Ideal S256x1 .f32)
    (r : Fin 256) (d : Fin 64) :
    headOut a (group g v e0 e1 e2 e3) den (ix2 r d)
      = Ideal.div (∑ c : Fin 512, (pick e0 e1 e2 e3 a (ix2 r c) : EReal) * v (ix2 c ⟨256 * g.val + (64 * a.val + d.val), by omega⟩)) (den (ix2 r 0)) := by
  unfold headOut group
  pointwise
  refine congrArg (fun z => Ideal.div z _) (Finset.sum_congr rfl fun x _ => ?_)
  have hr := r.isLt
  obtain ⟨a, ha⟩ := a
  congr 1
  interval_cases a <;> simp only [pick] <;> split_ifs <;>
    first
      | (exfalso; omega)
      | exact congrArg (fun i => e0 (ix2 i x)) (Fin.ext (by dsimp only; omega))
      | exact congrArg (fun i => e1 (ix2 i x)) (Fin.ext (by dsimp only; omega))
      | exact congrArg (fun i => e2 (ix2 i x)) (Fin.ext (by dsimp only; omega))
      | exact congrArg (fun i => e3 (ix2 i x)) (Fin.ext (by dsimp only; omega))

/-- Head `h`'s output at row `r` and column `d`: the weighted mean of the value rows, the weights the exponentiated scores. -/
theorem heads_apply (h : Fin 8) (q : FVec Ideal S256x512 .f32) (k v : FVec Ideal S512x512 .f32) (bias : FVec Ideal S256x512 .f32) (r : Fin 256) (d : Fin 64) :
    heads q k v bias (ix2 r (col h d))
      = Ideal.div (∑ c : Fin 512, (expScore h q k bias (ix2 r c) : EReal) * v (ix2 c (col h d))) (∑ c : Fin 512, (expScore h q k bias (ix2 r c) : EReal)) := by
  have hd := d.isLt
  unfold heads
  obtain ⟨h, hh⟩ := h
  interval_cases h <;> simp only [col] <;> pointwise (disch := omega) [dif_pos, dif_neg] <;>
    (first
      | rfl
      | (refine (show _ = headOut _ _ _ (ix2 r d) from congrArg (headOut _ _ _) (congrArg (ix2 r) (Fin.ext (by dsimp only <;> omega)))).trans ?_
         rw [headOut_group_apply, rowSum_apply]
         refine congrArg₂ Ideal.div (Finset.sum_congr rfl fun x _ => congrArg₂ (· * ·) rfl (congrArg (fun i => v (ix2 x i)) (Fin.ext ?_))) rfl
         simp only [Fin.val_zero, Fin.val_one, Fin.val_two, Fin.isValue]
         first | omega | (show _ + (64 * 3 + _) = _; omega)))

theorem tile_apply (q : FVec Ideal S256x512 .f32) (k v : FVec Ideal S512x512 .f32) (bias : FVec Ideal S256x512 .f32) (wo : FVec Ideal S512x512 .f32) (r : Fin 256) (n : Fin 512) :
    tile q k v bias wo (ix2 r n) = ∑ c : Fin 512, (heads q k v bias (ix2 r c) : EReal) * wo (ix2 c n) := by
  unfold tile
  pointwise

end Cert.AttentionIdeal.Tile

end
-- ==== Proof.Reals.lean ====
/- Sums, quotients and exponentials of finite extended reals. -/
module

public import Idealize.ShloMosaic.PureOps.Ideal
public import Mathlib.Data.EReal.Operations
public import Mathlib.Algebra.BigOperators.Group.Finset.Basic
public import Mathlib.Data.Finset.Fold

@[expose] public section

namespace Cert.Reals

open Idealize.ShloMosaic

/-- A sum of reals is the same sum over the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_dot {ι : Type*} [Fintype ι] (f g : ι → ℝ) : (∑ i, ((f i : ℝ) : EReal) * ((g i : ℝ) : EReal)) = ((∑ i, f i * g i : ℝ) : EReal) := by
  rw [← coe_sum]
  exact Finset.sum_congr rfl fun i _ => (EReal.coe_mul _ _).symm

/-- The quotient of two reals, the divisor not zero. -/
theorem coe_div (x y : ℝ) (h : y ≠ 0) : Ideal.div (x : EReal) (y : EReal) = ((x / y : ℝ) : EReal) := by
  rw [Ideal.div_coe h, ← EReal.coe_mul, mul_one_div]

/-- A finite extended real is a real. -/
theorem exists_real (x : EReal) (h1 : x ≠ ⊥) (h2 : x ≠ ⊤) : ∃ r : ℝ, x = (r : EReal) := ⟨x.toReal, (EReal.coe_toReal h2 h1).symm⟩

/-- Exponential of a score plus its bias: masked out it is zero. -/
theorem exp_mask (x : ℝ) (p : Prop) [Decidable p] :
    Ideal.exp ((x : EReal) + (if p then (0 : EReal) else ⊥)) = ((if p then Real.exp x else 0 : ℝ) : EReal) := by
  split_ifs with h
  · rw [add_zero, Ideal.exp_coe]
  · rw [EReal.add_bot, Ideal.exp_bot, EReal.coe_zero]

/-- The greatest of the scores of a row, the masked ones −∞: a real number where one is not masked. -/
theorem exists_max {ι : Type*} [Fintype ι] (p : ι → Prop) [DecidablePred p] (s : ι → ℝ) (j : ι) (hj : p j) :
    ∃ M : ℝ, Finset.fold max (⊥ : EReal) (fun i => if p i then ((s i : ℝ) : EReal) else ⊥) Finset.univ = (M : EReal) := by
  refine exists_real _ (fun h => ?_) (fun h => ?_)
  · have : (⊥ : EReal) < Finset.fold max (⊥ : EReal) (fun i => if p i then ((s i : ℝ) : EReal) else ⊥) Finset.univ :=
      (Finset.lt_fold_max _).mpr (Or.inr ⟨j, Finset.mem_univ _, by rw [if_pos hj]; exact EReal.bot_lt_coe _⟩)
    exact absurd h this.ne'
  · have : Finset.fold max (⊥ : EReal) (fun i => if p i then ((s i : ℝ) : EReal) else ⊥) Finset.univ < ⊤ :=
      (Finset.fold_max_lt _).mpr ⟨bot_lt_top, fun i _ => by split_ifs; exacts [EReal.coe_lt_top _, bot_lt_top]⟩
    exact absurd h this.ne

/-- A masked score less a real, exponentiated. -/
theorem exp_mask_sub (x M : ℝ) (p : Prop) [Decidable p] :
    Ideal.exp ((if p then ((x : ℝ) : EReal) else ⊥) - (M : EReal)) = (((if p then Real.exp x else 0) * Real.exp (-M) : ℝ) : EReal) := by
  split_ifs with h
  · rw [← EReal.coe_sub, Ideal.exp_coe, sub_eq_add_neg, Real.exp_add]
  · rw [sub_eq_add_neg, EReal.bot_add, Ideal.exp_bot, zero_mul, EReal.coe_zero]

/-- The word of −∞. -/
theorem neg_inf : Ideal.ofBits .f32 0xFF800000#32 = ⊥ := by simp [Ideal.ofBits, Ideal.ieee]

/-- The word of +∞. -/
theorem pos_inf : Ideal.ofBits .f32 0x7F800000#32 = ⊤ := by simp [Ideal.ofBits, Ideal.ieee]

end Cert.Reals
-- ==== Proof.Spec.lean ====
/- Sliding-window attention over the reals, and its sums over all keys as sums over a tile's key window. -/
module

public import proofs.«01_k».proof.Proof.Bias
public import proofs.«01_k».proof.Proof.TileValue
public import proofs.«01_k».proof.Proof.Reals

@[expose] public section

noncomputable section

namespace Cert.Spec

open Cert.AttentionIdeal.Tile

/-- The head that a column belongs to. -/
def headOf (c : Fin 512) : Fin 8 := ⟨c.val / 64, by omega⟩

/-- Position `i` attends to position `j`: to itself and to the 255 positions before it. -/
def Win (i j : Fin 2048) : Prop := j.val ≤ i.val ∧ i.val - j.val < 256

instance (i j : Fin 2048) : Decidable (Win i j) := by unfold Win; infer_instance

/-- Head `h`'s score of query row `i` with key row `j`. -/
def score {m n : ℕ} (Q : Fin m → Fin 512 → ℝ) (K : Fin n → Fin 512 → ℝ) (h : Fin 8) (i : Fin m) (j : Fin n) : ℝ :=
  ∑ d : Fin 64, Q i (col h d) * K j (col h d)

/-- The unnormalized weight of key `j` for query `i`. -/
def wgt (Q K : Fin 2048 → Fin 512 → ℝ) (h : Fin 8) (i j : Fin 2048) : ℝ := if Win i j then Real.exp (score Q K h i j) else 0

/-- The heads' outputs: the weighted mean of the value rows. -/
def mean (Q K V : Fin 2048 → Fin 512 → ℝ) (i : Fin 2048) (c : Fin 512) : ℝ :=
  (∑ j, wgt Q K (headOf c) i j * V j c) / ∑ j, wgt Q K (headOf c) i j

/-- Attention followed by the output weights. -/
def attn (Q K V : Fin 2048 → Fin 512 → ℝ) (Wo : Fin 512 → Fin 512 → ℝ) (i : Fin 2048) (n : Fin 512) : ℝ := ∑ c, mean Q K V i c * Wo c n

/-- The weights of a row have a positive sum: a position attends to itself. -/
theorem wgt_sum_pos (Q K : Fin 2048 → Fin 512 → ℝ) (h : Fin 8) (i : Fin 2048) : 0 < ∑ j, wgt Q K h i j := by
  refine Finset.sum_pos' (fun j _ => ?_) ⟨i, Finset.mem_univ _, ?_⟩
  · unfold wgt; split_ifs
    · exact (Real.exp_pos _).le
    · exact le_rfl
  · unfold wgt
    rw [if_pos ⟨le_rfl, by omega⟩]
    exact Real.exp_pos _

/-- The key row at place `c` of query tile `T`'s window: the tile before it (of the first tile, itself), then the tile. -/
def krow (T : Fin 8) (c : Fin 512) : Fin 2048 := if c.val < 256 then ⟨256 * (T.val - 1) + c.val, by omega⟩ else ⟨256 * T.val + (c.val - 256), by omega⟩

/-- The query row at row `r` of query tile `T`. -/
def qrow (T : Fin 8) (r : Fin 256) : Fin 2048 := ⟨256 * T.val + r.val, by omega⟩

/-- A sum over the positions that a row attends to is a sum over its tile's window. -/
theorem sum_window (T : Fin 8) (r : Fin 256) (f : Fin 2048 → ℝ) :
    (∑ j, if Win (qrow T r) j then f j else 0) = ∑ c : Fin 512, if Mk T.val r c then f (krow T c) else 0 := by
  rw [← Finset.sum_filter, ← Finset.sum_filter]
  symm
  refine Finset.sum_nbij' (fun c => krow T c) (fun j => (⟨(j.val + 256 - 256 * T.val) % 512, by omega⟩ : Fin 512)) ?_ ?_ ?_ ?_ ?_
  · intro c hc
    rw [Finset.mem_filter] at hc ⊢
    refine ⟨Finset.mem_univ _, ?_⟩
    have h := hc.2
    unfold Mk at h
    unfold Win qrow krow
    split_ifs at h ⊢ with h1 <;> dsimp only <;> omega
  · intro j hj
    rw [Finset.mem_filter] at hj ⊢
    refine ⟨Finset.mem_univ _, ?_⟩
    have h := hj.2
    unfold Win qrow at h
    unfold Mk
    dsimp only at h ⊢
    split_ifs with h1 <;> omega
  · intro c hc
    rw [Finset.mem_filter] at hc
    have h := hc.2
    unfold Mk at h
    apply Fin.ext
    unfold krow
    split_ifs at h ⊢ with h1 <;> dsimp only <;> omega
  · intro j hj
    rw [Finset.mem_filter] at hj
    have h := hj.2
    unfold Win qrow at h
    apply Fin.ext
    unfold krow
    dsimp only at h ⊢
    split_ifs with h1 <;> dsimp only <;> omega
  · intro c _; rfl

end Cert.Spec
-- ==== Proof.TileReal.lean ====
/- A query tile of finite blocks computes sliding-window attention. -/
module

public import proofs.«01_k».proof.Proof.Spec

@[expose] public section

set_option maxRecDepth 16384

noncomputable section

namespace Cert.AttentionIdeal.Tile

open Cert.AttentionIdeal Cert.AttentionIdeal.Gen Idealize.ShloMosaic Idealize.ShloMosaic.TcCoe Cert.Spec Cert.Reals

/-- A column is place `c % 64` of its head. -/
theorem col_headOf (c : Fin 512) : col (headOf c) ⟨c.val % 64, by omega⟩ = c := by
  apply Fin.ext
  show 64 * (c.val / 64) + c.val % 64 = c.val
  omega

/-- Head `h`'s exponentiated scores in a tile of finite blocks are its weights on the tile's window. -/
theorem expScore_real (T : Fin 8) (Q K : Fin 2048 → Fin 512 → ℝ) (q : FVec Ideal S256x512 .f32) (k : FVec Ideal S512x512 .f32) (bias : FVec Ideal S256x512 .f32)
    (hq : ∀ (r : Fin 256) (c : Fin 512), q (ix2 r c) = ((Q (qrow T r) c : ℝ) : EReal)) (hk : ∀ r c : Fin 512, k (ix2 r c) = ((K (krow T r) c : ℝ) : EReal))
    (hb : ∀ (r : Fin 256) (c : Fin 512), bias (ix2 r c) = if Mk T.val r c then (0 : EReal) else ⊥) (h : Fin 8) (r : Fin 256) (c : Fin 512) :
    expScore h q k bias (ix2 r c) = ((if Mk T.val r c then Real.exp (score Q K h (qrow T r) (krow T c)) else 0 : ℝ) : EReal) := by
  rw [expScore_apply, hb]
  simp only [hq, hk]
  rw [coe_dot, exp_mask]
  rfl

/-- A tile of finite blocks computes the attention of its rows. -/
theorem tile_real (T : Fin 8) (Q K V : Fin 2048 → Fin 512 → ℝ) (Wo : Fin 512 → Fin 512 → ℝ) (q : FVec Ideal S256x512 .f32) (k v : FVec Ideal S512x512 .f32)
    (bias : FVec Ideal S256x512 .f32) (wo : FVec Ideal S512x512 .f32)
    (hq : ∀ (r : Fin 256) (c : Fin 512), q (ix2 r c) = ((Q (qrow T r) c : ℝ) : EReal)) (hk : ∀ r c : Fin 512, k (ix2 r c) = ((K (krow T r) c : ℝ) : EReal))
    (hv : ∀ r c : Fin 512, v (ix2 r c) = ((V (krow T r) c : ℝ) : EReal))
    (hb : ∀ (r : Fin 256) (c : Fin 512), bias (ix2 r c) = if Mk T.val r c then (0 : EReal) else ⊥)
    (hw : ∀ r c : Fin 512, wo (ix2 r c) = ((Wo r c : ℝ) : EReal)) (r : Fin 256) (n : Fin 512) :
    tile q k v bias wo (ix2 r n) = ((attn Q K V Wo (qrow T r) n : ℝ) : EReal) := by
  have den : ∀ h : Fin 8, (∑ c : Fin 512, (expScore h q k bias (ix2 r c) : EReal)) = ((∑ j, wgt Q K h (qrow T r) j : ℝ) : EReal) := by
    intro h
    simp only [expScore_real T Q K q k bias hq hk hb]
    rw [coe_sum]
    exact congrArg _ (sum_window T r fun j => Real.exp (score Q K h (qrow T r) j)).symm
  have num : ∀ (h : Fin 8) (d : Fin 512), (∑ c : Fin 512, (expScore h q k bias (ix2 r c) : EReal) * v (ix2 c d)) = ((∑ j, wgt Q K h (qrow T r) j * V j d : ℝ) : EReal) := by
    intro h d
    simp only [expScore_real T Q K q k bias hq hk hb, hv]
    rw [coe_dot]
    refine congrArg _ ?_
    have e := (sum_window T r fun j => Real.exp (score Q K h (qrow T r) j) * V j d).symm
    simpa only [wgt, ite_mul, zero_mul] using e
  rw [tile_apply]
  have key : ∀ c : Fin 512, (heads q k v bias (ix2 r c) : EReal) = ((mean Q K V (qrow T r) c : ℝ) : EReal) := by
    intro c
    have e := heads_apply (headOf c) q k v bias r ⟨c.val % 64, by omega⟩
    rw [col_headOf] at e
    rw [e, num, den, coe_div _ _ (wgt_sum_pos Q K (headOf c) (qrow T r)).ne']
    rfl
  simp only [key, hw]
  rw [coe_dot]
  rfl

end Cert.AttentionIdeal.Tile

end
-- ==== Proof.BlockValue.lean ====
/- The output block of a grid point, its windows' blocks finite, is attention's rows. -/
module

public import proofs.«01_k».proof.Proof.TileReal
public import Idealize.ShloMosaic.Lib.Pointwise

@[expose] public section

set_option maxRecDepth 16384

noncomputable section

namespace Cert.AttentionIdeal.Tile

open Cert.AttentionIdeal Cert.AttentionIdeal.Gen Idealize.ShloMosaic Idealize.ShloMosaic.TcCoe Cert.Spec Cert.Reals

/-- Query tile `4 * tt + t`. -/
def tileNo (tt : Fin 2) (t : Fin 4) : Fin 8 := ⟨4 * tt.val + t.val, by omega⟩

/-- The position at row `r` of key window `w` of a block: the window of the tile before the block comes first, at the array's start the first tile's. -/
def wrow (tt : Fin 2) (w : Fin 5) (r : Fin 256) : Fin 2048 := ⟨256 * (4 * tt.val + w.val - 1) + r.val, by omega⟩

/-- The block's query rows, at an index. -/
theorem queries_apply (x0 : Vec Ideal S1x4x256x512 .bf16) (t : Fin 4) (r : Fin 256) (c : Fin 512) :
    extractStridedSlice S256x512 ![256 * t.val, 0] (k0_pay2 (F := Ideal) x0) (slices_qrow t) (ix2 r c) = x0 (ix4 0 t r c) := by
  unfold k0_pay2
  pointwise

theorem window_congr (f : Fin 5 → Vec Ideal S1x1x256x512 .bf16) (w w' : Fin 5) (q q' : Fin 256) (c : Fin 512) (hw : w.val = w'.val) (hq : q.val = q'.val) :
    f w (ix4 0 0 q c) = f w' (ix4 0 0 q' c) := by rw [Fin.ext hw, Fin.ext hq]

/-- The rows of the five key (or value) windows one below the other, at an index. -/
theorem rows5_apply (f : Fin 5 → Vec Ideal S1x1x256x512 .bf16) (t : Fin 4) (r c : Fin 512) :
    extractStridedSlice S512x512 ![256 * t.val, 0] (rows5 (F := Ideal) (f 0) (f 1) (f 2) (f 3) (f 4)) (slices_krow t) (ix2 r c)
      = f ⟨t.val + r.val / 256, by omega⟩ (ix4 0 0 ⟨r.val % 256, by omega⟩ c) := by
  unfold rows5 k0_pay3
  pointwise
  split
  · exact window_congr f _ _ _ _ c (by show 0 = t.val + r.val / 256; omega) (by dsimp only; omega)
  split
  · exact window_congr f _ _ _ _ c (by show 1 = t.val + r.val / 256; omega) (by dsimp only; omega)
  split
  · exact window_congr f _ _ _ _ c (by show 2 = t.val + r.val / 256; omega) (by dsimp only; omega)
  split
  · exact window_congr f _ _ _ _ c (by show 3 = t.val + r.val / 256; omega) (by dsimp only; omega)
  exact window_congr f _ _ _ _ c (by show 4 = t.val + r.val / 256; omega) (by dsimp only; omega)

theorem tile_congr (f : Fin 4 → FVec Ideal S256x512 .f32) (t t' : Fin 4) (r r' : Fin 256) (n : Fin 512) (ht : t.val = t'.val) (hr : r.val = r'.val) :
    f t (ix2 r n) = f t' (ix2 r' n) := by rw [Fin.ext ht, Fin.ext hr]

/-- The four query tiles of an output block one below the other, at an index. -/
theorem stack_apply (f : Fin 4 → FVec Ideal S256x512 .f32) (t : Fin 4) (r : Fin 256) (n : Fin 512) :
    k0_pay1 (F := Ideal) (f 0) (f 1) (f 2) (f 3) (ix3 0 ⟨256 * t.val + r.val, by omega⟩ n) = f t (ix2 r n) := by
  unfold k0_pay1
  pointwise
  split
  · exact tile_congr f _ _ _ _ n (by show 0 = t.val; omega) (by dsimp only; omega)
  split
  · exact tile_congr f _ _ _ _ n (by show 1 = t.val; omega) (by dsimp only; omega)
  split
  · exact tile_congr f _ _ _ _ n (by show 2 = t.val; omega) (by dsimp only; omega)
  exact tile_congr f _ _ _ _ n (by show 3 = t.val; omega) (by dsimp only; omega)

/-- A tile's key rows are rows of the block's windows. -/
theorem krow_tileNo (tt : Fin 2) (t : Fin 4) (c : Fin 512) :
    wrow tt ⟨t.val + c.val / 256, by omega⟩ ⟨c.val % 256, by omega⟩ = krow (tileNo tt t) c := by
  apply Fin.ext
  unfold wrow krow tileNo
  split_ifs <;> dsimp only <;> omega

/-- The output block of finite windows is attention's rows. -/
theorem blockOut_real (tt : Fin 2) (Q K V : Fin 2048 → Fin 512 → ℝ) (Wo : Fin 512 → Fin 512 → ℝ) (x0 : Vec Ideal S1x4x256x512 .bf16)
    (k v : Fin 5 → Vec Ideal S1x1x256x512 .bf16) (wo : Vec Ideal S512x512 .f32)
    (hq : ∀ (t : Fin 4) (r : Fin 256) (c : Fin 512), x0 (ix4 0 t r c) = ((Q (qrow (tileNo tt t) r) c : ℝ) : EReal))
    (hk : ∀ (w : Fin 5) (r : Fin 256) (c : Fin 512), k w (ix4 0 0 r c) = ((K (wrow tt w r) c : ℝ) : EReal))
    (hv : ∀ (w : Fin 5) (r : Fin 256) (c : Fin 512), v w (ix4 0 0 r c) = ((V (wrow tt w r) c : ℝ) : EReal))
    (hw : ∀ r c : Fin 512, wo (ix2 r c) = ((Wo r c : ℝ) : EReal)) (t : Fin 4) (r : Fin 256) (n : Fin 512) :
    blockOut (F := Ideal) (BitVec.ofNat 32 tt.val) x0 (k 0) (k 1) (k 2) (k 3) (k 4) (v 0) (v 1) (v 2) (v 3) (v 4) wo (ix3 0 ⟨256 * t.val + r.val, by omega⟩ n)
      = ((attn Q K V Wo (qrow (tileNo tt t) r) n : ℝ) : EReal) := by
  refine (stack_apply (fun t => tileOf (BitVec.ofNat 32 tt.val) t (k0_pay2 x0) (rows5 (k 0) (k 1) (k 2) (k 3) (k 4)) (rows5 (v 0) (v 1) (v 2) (v 3) (v 4)) wo) t r n).trans ?_
  refine tile_real (tileNo tt t) Q K V Wo _ _ _ _ wo (fun r c => ?_) (fun r c => ?_) (fun r c => ?_) (fun r c => bias_apply tt t r c) hw r n
  · rw [queries_apply, hq]
  · rw [rows5_apply, hk, krow_tileNo]
  · rw [rows5_apply, hv, krow_tileNo]

end Cert.AttentionIdeal.Tile

end
-- ==== Proof.RefValue.lean ====
/- The reference attention of finite arguments, read at an index. -/
module

public import proofs.«01_k».proof.Proof.Spec
public import proofs.«01_k».proof.Proof.Gen.AttentionRefIdeal.Read
public import Idealize.ShloMosaic.Lib.Pointwise
public import Idealize.ShloMosaic.Lib.WordCmp

@[expose] public section

set_option maxRecDepth 16384

noncomputable section

namespace Cert.AttentionRefIdeal.Spec

open Cert.AttentionRefIdeal Cert.AttentionRefIdeal.Gen Cert.AttentionRefIdeal.Read Idealize.ShloMosaic Idealize.ShloMosaic.TcCoe Cert.Spec Cert.Reals
open Cert.AttentionIdeal.Tile (col slt_word)

/-- The mask of the scores: one where the position is attended to. -/
theorem mask_apply (i j : Fin 2048) : val_main_v22 (F := Ideal) (ix2 i j) = if Win i j then 1#1 else 0#1 := by
  have hi := i.isLt
  have hj := j.isLt
  unfold val_main_v22 val_main_v21 val_main_v20 val_main_v19 val_main_v18 val_main_v17 val_main_v16 val_main_v15 val_main_v14 val_main_v13 val_main_v12
    val_main_v11 val_main_v10 val_main_v9 val_main_c
  pointwise
  rw [WordCmp.cmpi_sge_ofNat (by omega) (by omega)]
  by_cases h : j.val ≤ i.val
  · have e : IntOp.subi (BitVec.ofNat 32 i.val) (BitVec.ofNat 32 j.val) = BitVec.ofNat 32 (i.val - j.val) := by
      apply BitVec.eq_of_toNat_eq
      show (BitVec.ofNat 32 i.val - BitVec.ofNat 32 j.val).toNat = _
      simp only [BitVec.toNat_sub, BitVec.toNat_ofNat]
      omega
    rw [e, slt_word _ 256 (by omega) (by omega)]
    by_cases h2 : i.val - j.val < 256 <;> simp [Win, h, h2, IntOp.andi]
  · simp [Win, h, IntOp.andi]

/-- Rows of queries (`p = 0`), keys (`p = 1`) and values (`p = 2`) of a batch member's projections. -/
def part (X : Fin 4 → Fin 8 → Fin 256 → Fin 1536 → ℝ) (p : Fin 3) (b : Fin 4) (i : Fin 2048) (c : Fin 512) : ℝ :=
  X b ⟨i.val / 256, by omega⟩ ⟨i.val % 256, by omega⟩ ⟨512 * p.val + c.val, by omega⟩

variable (X : Fin 4 → Fin 8 → Fin 256 → Fin 1536 → ℝ) (x0 : FVec Ideal S4x8x256x1536 .bf16)
variable (h0 : ∀ b u r c, x0 (ix4 b u r c) = ((X b u r c : ℝ) : EReal))

include h0 in
/-- The scores before the mask. -/
theorem score_apply (b : Fin 4) (h : Fin 8) (i j : Fin 2048) :
    val_main_v8 (F := Ideal) x0 (ix4 b h i j) = ((score (part X 0 b) (part X 1 b) h i j : ℝ) : EReal) := by
  unfold val_main_v8 val_main_v3 val_main_v5 val_main_v2 val_main_v4 val_main_v1 val_main_v0
  pointwise
  simp only [h0]
  rw [coe_dot]
  refine congrArg _ (Finset.sum_congr rfl fun d _ => congrArg₂ (· * ·) ?_ ?_)
  · exact congrArg (X b _ _) (Fin.ext (by show h.val * 64 + d.val = 512 * 0 + (64 * h.val + d.val); omega))
  · exact congrArg (X b _ _) (Fin.ext (by show 512 + h.val * 64 + d.val = 512 * 1 + (64 * h.val + d.val); omega))

include h0 in
/-- The masked scores. -/
theorem masked_apply (b : Fin 4) (h : Fin 8) (i j : Fin 2048) :
    val_main_v24 (F := Ideal) x0 (ix4 b h i j) = if Win i j then ((score (part X 0 b) (part X 1 b) h i j : ℝ) : EReal) else ⊥ := by
  have hs := score_apply X x0 h0 b h i j
  have hm := mask_apply i j
  unfold val_main_v24 val_main_call0_v1 val_main_call0_v2 val_main_v23 val_main_call0_v0 val_main_cst
  pointwise
  rw [hs, hm]
  by_cases h : Win i j
  · simp [h, Scalar.select]
  · simp only [h, Scalar.select, if_false]
    exact neg_inf

/-- The greatest score of a row, at an index. -/
theorem rowMax_apply (x : FVec Ideal S4x8x2048x2048 .f32) (b : Fin 4) (h : Fin 8) (i : Fin 2048) :
    Host.reduce (FloatOps.maximumf (F := Ideal) (φ := .f32)) x (constant (F := Ideal) S_ .f32 0xFF800000#32) reducesTo_S4x8x2048x2048_S4x8x2048_d3 h_S_ (ix3 b h i)
      = Finset.fold max (⊥ : EReal) (fun j => (x (ix4 b h i j) : EReal)) Finset.univ := by
  rw [← neg_inf]
  pointwise

/-- The greatest masked score of a row. -/
theorem top_apply (b : Fin 4) (h : Fin 8) (i : Fin 2048) (x : FVec Ideal S4x8x2048x2048 .f32) (hx : val_main_v24 (F := Ideal) x0 = x) :
   val_main_v25 (F := Ideal) x0 (ix3 b h i) = Finset.fold max (⊥ : EReal) (fun j => (x (ix4 b h i j) : EReal)) Finset.univ := by
  unfold val_main_v25 val_main_cst_0
  rw [hx]
  exact rowMax_apply x b h i

/-- The scores of a row less its greatest, exponentiated. -/
theorem expLess_apply (x : FVec Ideal S4x8x2048x2048 .f32) (y : FVec Ideal S4x8x2048 .f32) (b : Fin 4) (h : Fin 8) (i j : Fin 2048) :
    Host.exp (subf x (broadcastInDim S4x8x2048x2048 ![0, 1, 2, 3] bcast_S4x8x2048x1_S4x8x2048x2048_0_1_2_3
      (broadcastInDim S4x8x2048x1 ![0, 1, 2] bcast_S4x8x2048_S4x8x2048x1_0_1_2 (maximumf (broadcastInDim S4x8x2048 ![] bcast_S_S4x8x2048 (constant S_ .f32 0xFF800000#32)) y))))
      (ix4 b h i j) = Ideal.exp ((x (ix4 b h i j) : EReal) - max ⊥ (y (ix3 b h i) : EReal)) := by
  rw [← neg_inf]
  pointwise

/-- A row's exponential, its greatest score known. -/
theorem expRow_apply (b : Fin 4) (h : Fin 8) (i j : Fin 2048) (M : ℝ) (hv : val_main_v25 (F := Ideal) x0 (ix3 b h i) = (M : EReal)) :
    val_main_v31 (F := Ideal) x0 (ix4 b h i j) = Ideal.exp ((val_main_v24 (F := Ideal) x0 (ix4 b h i j) : EReal) - (M : EReal)) := by
  have e := expLess_apply (val_main_v24 (F := Ideal) x0) (val_main_v25 (F := Ideal) x0) b h i j
  rw [hv, max_eq_right bot_le] at e
  unfold val_main_v31 val_main_v30 val_main_v29 val_main_v28 val_main_v27 val_main_v26 val_main_cst_1
  exact e

include h0 in
/-- The exponentiated scores of a row: the weights, all scaled by one positive number. -/
theorem exps_apply (b : Fin 4) (h : Fin 8) (i : Fin 2048) :
    ∃ M : ℝ, ∀ j, val_main_v31 (F := Ideal) x0 (ix4 b h i j) = ((wgt (part X 0 b) (part X 1 b) h i j * Real.exp (-M) : ℝ) : EReal) := by
  have hs := masked_apply X x0 h0 b h i
  obtain ⟨M, hM⟩ := exists_max (Win i) (fun j => score (part X 0 b) (part X 1 b) h i j) i ⟨le_rfl, by omega⟩
  have hv := top_apply x0 b h i _ rfl
  rw [funext hs, hM] at hv
  refine ⟨M, fun j => ?_⟩
  rw [expRow_apply x0 b h i j M hv, hs]
  exact exp_mask_sub _ M (Win i j)

include h0 in
/-- The softmax of the scores: the weights over their sum. -/
theorem softmax_apply (b : Fin 4) (h : Fin 8) (i j : Fin 2048) :
    val_main_v35 (F := Ideal) x0 (ix4 b h i j) = ((wgt (part X 0 b) (part X 1 b) h i j / ∑ k, wgt (part X 0 b) (part X 1 b) h i k : ℝ) : EReal) := by
  obtain ⟨M, hM⟩ := exps_apply X x0 h0 b h i
  unfold val_main_v35 val_main_v34 val_main_v33 val_main_v32 val_main_cst_2
  pointwise
  simp only [hM]
  have hp := Real.exp_pos (-M)
  rw [coe_sum, ← Finset.sum_mul, coe_div _ _ (mul_pos (wgt_sum_pos _ _ h i) hp).ne', mul_div_mul_right _ _ hp.ne']

include h0 in
/-- The heads' outputs. -/
theorem mean_apply (b : Fin 4) (i : Fin 2048) (c : Fin 512) :
    val_main_v38 (F := Ideal) x0 (ix3 b i c) = ((mean (part X 0 b) (part X 1 b) (part X 2 b) i c : ℝ) : EReal) := by
  have hs := softmax_apply X x0 h0 b
  unfold val_main_v38 val_main_v37 val_main_v36 val_main_v7 val_main_v6
  pointwise
  have hv : ∀ j : Fin 2048, val_main_v1 (F := Ideal) x0 (ix5 b j 2 (headOf c) ⟨c.val % 64, by omega⟩) = ((part X 2 b j c : ℝ) : EReal) := by
    intro j
    unfold val_main_v1 val_main_v0
    pointwise
    rw [h0]
    exact congrArg (fun k => ((X b _ _ k : ℝ) : EReal)) (Fin.ext (by show 1024 + c.val / 64 * 64 + c.val % 64 = 512 * 2 + c.val; omega))
  have e : ∀ j : Fin 2048, (val_main_v1 (F := Ideal) x0 (ix5 b j 2 (headOf c) ⟨c.val % 64, by omega⟩) : EReal) * val_main_v35 (F := Ideal) x0 (ix4 b (headOf c) i j)
      = ((wgt (part X 0 b) (part X 1 b) (headOf c) i j * part X 2 b j c / ∑ k, wgt (part X 0 b) (part X 1 b) (headOf c) i k : ℝ) : EReal) := by
    intro j
    rw [hv, hs, ← EReal.coe_mul]
    exact congrArg _ (by ring)
  refine (Finset.sum_congr rfl fun j _ => e j).trans ?_
  rw [coe_sum, ← Finset.sum_div]
  rfl

include h0 in
/-- The reference attention of finite arguments. -/
theorem result_apply (x1 : FVec Ideal S512x512 .f32) (Wo : Fin 512 → Fin 512 → ℝ) (h1 : ∀ r c, x1 (ix2 r c) = ((Wo r c : ℝ) : EReal))
    (b : Fin 4) (i : Fin 2048) (n : Fin 512) :
    val_main_v39 (F := Ideal) x0 x1 (ix3 b i n) = ((attn (part X 0 b) (part X 1 b) (part X 2 b) Wo i n : ℝ) : EReal) := by
  have hs := mean_apply X x0 h0 b i
  unfold val_main_v39
  pointwise
  simp only [hs, h1]
  rw [coe_dot]
  rfl

end Cert.AttentionRefIdeal.Spec

end
-- ==== Proof.ArrayValue.lean ====
/- The kernel's result array: attention of its arguments, these finite. -/
module

public import proofs.«01_k».proof.Proof.BlockValue
public import proofs.«01_k».proof.Proof.RefValue
public import proofs.«01_k».proof.Proof.Gen.AttentionIdeal.Value
public import Idealize.ShloMosaic.Lib.Pipeline.ValueKit

@[expose] public section

set_option maxRecDepth 16384

noncomputable section

namespace Cert.AttentionIdeal.Array

open Cert.AttentionIdeal Cert.AttentionIdeal.Gen Cert.AttentionIdeal.Tile Idealize.ShloMosaic Idealize.ShloMosaic.TcCoe Cert.Spec
open Cert.AttentionRefIdeal.Spec (part)
open Idealize.SL.Sem

variable (m : (l : Loc nD τ sig) → Buf (Elt Ideal) l)

/-- Where the query, output-weight and output windows' blocks lie. -/
theorem index_q (t : Fin cfg0.N) : win0_0.index t = ![(grid0.coords t 0).val, (grid0.coords t 1).val, 0, 0] :=
  (by decide +kernel : ∀ t : Fin grid0.N, win0_0.index t = ![(grid0.coords t 0).val, (grid0.coords t 1).val, 0, 0]) t
theorem index_w (t : Fin cfg0.N) : win0_11.index t = ![0, 0] :=
  (by decide +kernel : ∀ t : Fin grid0.N, win0_11.index t = ![0, 0]) t
theorem index_o (t : Fin cfg0.N) : win0_12.index t = ![(grid0.coords t 0).val, (grid0.coords t 1).val, 0] :=
  (by decide +kernel : ∀ t : Fin grid0.N, win0_12.index t = ![(grid0.coords t 0).val, (grid0.coords t 1).val, 0]) t

/-- Where the five key and the five value windows' blocks lie. -/
theorem index_kv (t : Fin cfg0.N) :
    (win0_1.index t = ![(grid0.coords t 0).val, 4 * (grid0.coords t 1).val + 0 - 1, 0, 1] ∧ win0_2.index t = ![(grid0.coords t 0).val, 4 * (grid0.coords t 1).val + 1 - 1, 0, 1]
      ∧ win0_3.index t = ![(grid0.coords t 0).val, 4 * (grid0.coords t 1).val + 2 - 1, 0, 1] ∧ win0_4.index t = ![(grid0.coords t 0).val, 4 * (grid0.coords t 1).val + 3 - 1, 0, 1]
      ∧ win0_5.index t = ![(grid0.coords t 0).val, 4 * (grid0.coords t 1).val + 4 - 1, 0, 1])
    ∧ (win0_6.index t = ![(grid0.coords t 0).val, 4 * (grid0.coords t 1).val + 0 - 1, 0, 2] ∧ win0_7.index t = ![(grid0.coords t 0).val, 4 * (grid0.coords t 1).val + 1 - 1, 0, 2]
      ∧ win0_8.index t = ![(grid0.coords t 0).val, 4 * (grid0.coords t 1).val + 2 - 1, 0, 2] ∧ win0_9.index t = ![(grid0.coords t 0).val, 4 * (grid0.coords t 1).val + 3 - 1, 0, 2]
      ∧ win0_10.index t = ![(grid0.coords t 0).val, 4 * (grid0.coords t 1).val + 4 - 1, 0, 2]) :=
  (by decide +kernel : ∀ t : Fin grid0.N,
    (win0_1.index t = ![(grid0.coords t 0).val, 4 * (grid0.coords t 1).val + 0 - 1, 0, 1] ∧ win0_2.index t = ![(grid0.coords t 0).val, 4 * (grid0.coords t 1).val + 1 - 1, 0, 1]
      ∧ win0_3.index t = ![(grid0.coords t 0).val, 4 * (grid0.coords t 1).val + 2 - 1, 0, 1] ∧ win0_4.index t = ![(grid0.coords t 0).val, 4 * (grid0.coords t 1).val + 3 - 1, 0, 1]
      ∧ win0_5.index t = ![(grid0.coords t 0).val, 4 * (grid0.coords t 1).val + 4 - 1, 0, 1])
    ∧ (win0_6.index t = ![(grid0.coords t 0).val, 4 * (grid0.coords t 1).val + 0 - 1, 0, 2] ∧ win0_7.index t = ![(grid0.coords t 0).val, 4 * (grid0.coords t 1).val + 1 - 1, 0, 2]
      ∧ win0_8.index t = ![(grid0.coords t 0).val, 4 * (grid0.coords t 1).val + 2 - 1, 0, 2] ∧ win0_9.index t = ![(grid0.coords t 0).val, 4 * (grid0.coords t 1).val + 3 - 1, 0, 2]
      ∧ win0_10.index t = ![(grid0.coords t 0).val, 4 * (grid0.coords t 1).val + 4 - 1, 0, 2])) t

/-- The result array the specification names. -/
def G (X : Fin 4 → Fin 8 → Fin 256 → Fin 1536 → ℝ) (Wo : Fin 512 → Fin 512 → ℝ) : FVec Ideal S4x2048x512 .f32 :=
  fun i => ((attn (part X 0 (i 0)) (part X 1 (i 0)) (part X 2 (i 0)) Wo (i 1) (i 2) : ℝ) : EReal)

variable (c : Dev nD) (X : Fin 4 → Fin 8 → Fin 256 → Fin 1536 → ℝ) (Wo : Fin 512 → Fin 512 → ℝ)
variable (h0 : ∀ b u r k, m ((c : Thread nD τ).loc main_arg0) (ix4 b u r k) = ((X b u r k : ℝ) : EReal))
variable (h1 : ∀ r k, m ((c : Thread nD τ).loc main_arg1) (ix2 r k) = ((Wo r k : ℝ) : EReal))

/-- The block of query rows at a grid point. -/
theorem query_block (t : Fin cfg0.N) (b : Fin 4) (hb : (grid0.coords t 0).val = b.val) (tt : Fin 2) (htt : (grid0.coords t 1).val = tt.val)
    (u : Fin 4) (r : Fin 256) (k : Fin 512) :
    iblk m c 0 t (ix4 0 u r k) = m ((c : Thread nD τ).loc main_arg0) (ix4 b ⟨4 * tt.val + u.val, by omega⟩ r ⟨k.val, by omega⟩) := by
  blk_ext [iblk, V, index_q t]

/-- The key windows' blocks at a grid point. -/
def keys (t : Fin cfg0.N) : Fin 5 → Vec Ideal S1x1x256x512 .bf16 := ![iblk m c 1 t, iblk m c 2 t, iblk m c 3 t, iblk m c 4 t, iblk m c 5 t]

/-- The value windows' blocks at a grid point. -/
def vals (t : Fin cfg0.N) : Fin 5 → Vec Ideal S1x1x256x512 .bf16 := ![iblk m c 6 t, iblk m c 7 t, iblk m c 8 t, iblk m c 9 t, iblk m c 10 t]

theorem key_block (t : Fin cfg0.N) (b : Fin 4) (hb : (grid0.coords t 0).val = b.val) (tt : Fin 2) (htt : (grid0.coords t 1).val = tt.val)
    (w : Fin 5) (r : Fin 256) (k : Fin 512) :
    keys m c t w (ix4 0 0 r k) = m ((c : Thread nD τ).loc main_arg0) (ix4 b ⟨4 * tt.val + w.val - 1, by omega⟩ r ⟨512 + k.val, by omega⟩) := by
  obtain ⟨⟨e1, e2, e3, e4, e5⟩, -⟩ := index_kv t
  match w with
  | 0 => show iblk m c 1 t (ix4 0 0 r k) = _; blk_ext [iblk, V, e1]
  | 1 => show iblk m c 2 t (ix4 0 0 r k) = _; blk_ext [iblk, V, e2]
  | 2 => show iblk m c 3 t (ix4 0 0 r k) = _; blk_ext [iblk, V, e3]
  | 3 => show iblk m c 4 t (ix4 0 0 r k) = _; blk_ext [iblk, V, e4]
  | 4 => show iblk m c 5 t (ix4 0 0 r k) = _; blk_ext [iblk, V, e5]

theorem val_block (t : Fin cfg0.N) (b : Fin 4) (hb : (grid0.coords t 0).val = b.val) (tt : Fin 2) (htt : (grid0.coords t 1).val = tt.val)
    (w : Fin 5) (r : Fin 256) (k : Fin 512) :
    vals m c t w (ix4 0 0 r k) = m ((c : Thread nD τ).loc main_arg0) (ix4 b ⟨4 * tt.val + w.val - 1, by omega⟩ r ⟨1024 + k.val, by omega⟩) := by
  obtain ⟨-, e1, e2, e3, e4, e5⟩ := index_kv t
  match w with
  | 0 => show iblk m c 6 t (ix4 0 0 r k) = _; blk_ext [iblk, V, e1]
  | 1 => show iblk m c 7 t (ix4 0 0 r k) = _; blk_ext [iblk, V, e2]
  | 2 => show iblk m c 8 t (ix4 0 0 r k) = _; blk_ext [iblk, V, e3]
  | 3 => show iblk m c 9 t (ix4 0 0 r k) = _; blk_ext [iblk, V, e4]
  | 4 => show iblk m c 10 t (ix4 0 0 r k) = _; blk_ext [iblk, V, e5]

/-- The output weights' block is the whole array. -/
theorem weight_block (t : Fin cfg0.N) (r k : Fin 512) : iblk m c 11 t (ix2 r k) = m ((c : Thread nD τ).loc main_arg1) (ix2 r k) := by
  blk_ext [iblk, V, index_w t]

theorem entry_congr (b : Fin 4) (u u' : Fin 8) (r r' : Fin 256) (j j' : Fin 1536) (hu : u.val = u'.val) (hr : r.val = r'.val) (hj : j.val = j'.val) :
    X b u r j = X b u' r' j' := by rw [Fin.ext hu, Fin.ext hr, Fin.ext hj]

/-- A row of the projections, by its tile and its place there. -/
theorem part_at (p : Fin 3) (b : Fin 4) (u : Fin 8) (r : Fin 256) (k : Fin 512) (i : Fin 2048) (j : Fin 1536) (hi : i.val = 256 * u.val + r.val) (hj : j.val = 512 * p.val + k.val) :
    X b u r j = part X p b i k := by
  exact entry_congr X b _ _ _ _ _ _ (by dsimp only; omega) (by dsimp only; omega) hj

include h0 h1 in
/-- What a grid point writes back is its block of the specification's array. -/
theorem point_value (t : Fin cfg0.N) (y : S1x1024x512.Idx) :
    (dats m 0 c).flushed 12 t y = G X Wo (((cfg0.win 12).blk t).view.emb y) := by
  obtain ⟨b, hb⟩ : ∃ b : Fin 4, (grid0.coords t 0).val = b.val := ⟨⟨(grid0.coords t 0).val, (grid0.coords t 0).isLt⟩, rfl⟩
  obtain ⟨tt, htt⟩ : ∃ tt : Fin 2, (grid0.coords t 1).val = tt.val := ⟨⟨(grid0.coords t 1).val, (grid0.coords t 1).isLt⟩, rfl⟩
  rw [Cert.AttentionIdeal.Value.flushed12, out_eq]
  idx_vars y
  have hy0 : y0 = 0 := Subsingleton.elim _ _
  subst hy0
  obtain ⟨u, r, rfl⟩ : ∃ (u : Fin 4) (r : Fin 256), y1 = ⟨256 * u.val + r.val, by omega⟩ :=
    ⟨⟨y1.val / 256, by omega⟩, ⟨y1.val % 256, by omega⟩, Fin.ext (by dsimp only; omega)⟩
  have place : ((cfg0.win 12).blk t).view.emb (ix3 (0 : Fin 1) (⟨256 * u.val + r.val, by omega⟩ : Fin 1024) y2) = ix3 b (qrow (tileNo tt u) r) y2 := by
    unfold qrow tileNo
    blk_ext [index_o t]
  have rd := blockOut_real tt (part X 0 b) (part X 1 b) (part X 2 b) Wo (iblk m c 0 t) (keys m c t) (vals m c t) (iblk m c 11 t)
    (fun u r k => ?_) (fun w r k => ?_) (fun w r k => ?_) (fun r k => ?_) u r y2
  · refine Eq.trans ?_ ((rd).trans ?_)
    · have z0 : (![0, 0, 0, 0] : Fin 4 → ℕ) = fun _ => 0 := by decide
      have z1 : (![0, 0] : Fin 2 → ℕ) = fun _ => 0 := by decide
      have z2 : (![0, 0, 0] : Fin 3 → ℕ) = fun _ => 0 := by decide
      rw [View.canon_unit_zero (S := S1x1024x512) z2, View.ld_unit_zero (S := S1x4x256x512) z0, View.ld_unit_zero (S := S512x512) z1, htt]
      repeat rw [View.ld_unit_zero (S := S1x1x256x512) z0]
      rfl
    · rw [place]; rfl
  · rw [query_block m c t b hb tt htt, h0]
    exact congrArg _ (part_at X 0 b _ r k _ _ (by unfold qrow tileNo; rfl) (by show k.val = 512 * 0 + k.val; omega))
  · rw [key_block m c t b hb tt htt, h0]
    exact congrArg _ (part_at X 1 b _ r k _ _ (by unfold wrow; rfl) (by show 512 + k.val = 512 * 1 + k.val; omega))
  · rw [val_block m c t b hb tt htt, h0]
    exact congrArg _ (part_at X 2 b _ r k _ _ (by unfold wrow; rfl) (by show 1024 + k.val = 512 * 2 + k.val; omega))
  · rw [weight_block, h1]

include h0 h1 in
/-- The kernel's result array after the run. -/
theorem array_value : (dats m 0 c).arrAt 12 cfg0.N = G X Wo := by
  refine (dats m 0 c).arrAt_eq_of_covers 12 _ (by decide +kernel) fun t _ y => ?_
  exact point_value m c X Wo h0 h1 t y

end Cert.AttentionIdeal.Array

end
-- ==== Proof.Finite.lean ====
/- Finite argument arrays are arrays of reals. -/
module

public import proofs.«01_k».proof.Proof.Reals
public import proofs.«01_k».proof.Pre_finite_attention
public import proofs.«01_k».proof.Proof.Gen.Pre_finite_attention
public import Idealize.ShloMosaic.Lib.ReduceAll
public import Idealize.ShloMosaic.Lib.Affine
public import Idealize.ShloMosaic.Lib.Pointwise

@[expose] public section

set_option maxRecDepth 16384

noncomputable section

namespace Cert.Reals

open Idealize.ShloMosaic

/-- A number whose absolute value is below +∞ is finite. -/
theorem finite_of_abs (x : EReal) (h : Ideal.cmp .olt (max x (-x)) (Ideal.ofBits .f32 0x7F800000#32) = 1#1) : ∃ r : ℝ, x = (r : EReal) := by
  rw [pos_inf] at h
  have lt : max x (-x) < ⊤ := by
    by_contra hn
    simp [Ideal.cmp, hn] at h
  refine exists_real x (fun e => ?_) (fun e => ?_)
  · rw [e] at lt; simp at lt
  · rw [e] at lt; simp at lt

open Cert.Pre_finite_attention in
/-- What the precondition says: every entry of both arrays is a real number. -/
theorem entries_real [Facts] (x0 : FVec Ideal S4x8x256x1536 .bf16) (x1 : FVec Ideal S512x512 .f32) (h : fn (F := Ideal) x0 x1 = fun _ => 1#1) :
    (∀ i, ∃ r : ℝ, x0 i = (r : EReal)) ∧ (∀ i, ∃ r : ℝ, x1 i = (r : EReal)) := by
  haveI : Subsingleton S_.Idx := ⟨fun a b => funext fun k => k.elim0⟩
  have h' := congrFun h ix0
  unfold fn at h'
  obtain ⟨ha, hb⟩ := IntOp.andi_eq_one.mp h'
  exact ⟨fun i => finite_of_abs _ (Host.reduce_andi_all _ _ _ _ _ ha i), fun i => finite_of_abs _ (Host.reduce_andi_all _ _ _ _ _ hb i)⟩

end Cert.Reals

end
-- ==== Proof.MemSpec.lean ====
/- The neural memory over the reals: projections, the gradient of a token's loss, the momentum-weighted mean over
   chunks, the update of the weights and the retrieval. -/
module

public import proofs.«01_k».proof.Proof.Reals
public import Idealize.ShloMosaic.Lib.Pointwise
public import Mathlib.Analysis.SpecialFunctions.Exp

@[expose] public section

noncomputable section

namespace Cert.MemSpec

open Idealize.ShloMosaic

/-- The logistic function. -/
def sg (x : ℝ) : ℝ := (1 + Real.exp (-x))⁻¹
/-- The derivative of `x · sg x`. -/
def ds (x : ℝ) : ℝ := sg x + x * (sg x * (1 - sg x))

/-- A row vector times a matrix. -/
def lin {n : ℕ} (W : Fin 512 → Fin n → ℝ) (v : Fin 512 → ℝ) (j : Fin n) : ℝ := ∑ d, v d * W d j

/-- A layer of the memory: its input plus the activation of its product with the weights. -/
def layer (W : Fin 512 → Fin 512 → ℝ) (k : Fin 512 → ℝ) (j : Fin 512) : ℝ := k j + lin W k j * sg (lin W k j)

/-- The memory: two layers. -/
def mem (W0 W1 : Fin 512 → Fin 512 → ℝ) (k : Fin 512 → ℝ) : Fin 512 → ℝ := layer W1 (layer W0 k)

section
variable (W0 W1 : Fin 512 → Fin 512 → ℝ) (k v : Fin 512 → ℝ)

/-- The error of a token, -/
def err1 (j : Fin 512) : ℝ := mem W0 W1 k j - v j
/-- carried through the second layer's activation, -/
def sl1 (j : Fin 512) : ℝ := err1 W0 W1 k v j * ds (lin W1 (layer W0 k) j)
/-- at the first layer's output, -/
def err0 (j : Fin 512) : ℝ := err1 W0 W1 k v j + ∑ l, sl1 W0 W1 k v l * W1 j l
/-- and carried through the first layer's activation. -/
def sl0 (j : Fin 512) : ℝ := err0 W0 W1 k v j * ds (lin W0 k j)

/-- Half the gradient of the token's squared error in the weights of layer `p`. -/
def grad (p : Fin 2) (i j : Fin 512) : ℝ :=
  if p = 0 then k i * sl0 W0 W1 k v j else layer W0 k i * sl1 W0 W1 k v j
end

/-- The real number an f32 word stands for. -/
def num (w : BitVec 32) : ℝ := (Ideal.ofBits .f32 w).toReal

/-- The arguments over the reals. -/
structure Par where
  X : Fin 4 → Fin 1984 → Fin 512 → ℝ
  M : Fin 64 → Fin 512 → ℝ
  W : Fin 2 → Fin 512 → Fin 512 → ℝ
  Wq : Fin 512 → Fin 512 → ℝ
  bq : Fin 512 → ℝ
  Wk : Fin 512 → Fin 512 → ℝ
  bk : Fin 512 → ℝ
  Wv : Fin 512 → Fin 512 → ℝ
  bv : Fin 512 → ℝ
  Wl : Fin 512 → ℝ
  bl : ℝ
  Aq : Fin 512 → Fin 512 → ℝ
  Ak : Fin 512 → Fin 512 → ℝ
  Av : Fin 512 → Fin 512 → ℝ

namespace Par
variable (P : Par)

/-- A batch member's tokens: the meta memory's rows before its own. -/
def tok (b : Fin 4) (t : Fin 2048) (d : Fin 512) : ℝ := if h : t.val < 64 then P.M ⟨t.val, h⟩ d else P.X b ⟨t.val - 64, by omega⟩ d

/-- Token `l` of chunk `c`. -/
def at' (c : Fin 16) (l : Fin 128) : Fin 2048 := ⟨c.val * 128 + l.val, by omega⟩

/-- A token's key, value and query. -/
def key (b : Fin 4) (t : Fin 2048) (j : Fin 512) : ℝ := lin P.Wk (P.tok b t) j + P.bk j
def val (b : Fin 4) (t : Fin 2048) (j : Fin 512) : ℝ := lin P.Wv (P.tok b t) j + P.bv j
def qry (b : Fin 4) (t : Fin 2048) (j : Fin 512) : ℝ := lin P.Wq (P.tok b t) j + P.bq j
/-- A token's learning rate. -/
def rate (b : Fin 4) (t : Fin 2048) : ℝ := num 0x3DCCCCCD#32 * sg ((∑ d, P.tok b t d * P.Wl d) + P.bl)

/-- The momentum after `c + 1` chunks. -/
def pw (c : Fin 16) : ℝ := Real.rpow (num 0x3F666666#32) (c.val + 1)

/-- A chunk's gradient in the weights of layer `p`. -/
def u (p : Fin 2) (c : Fin 16) (i j : Fin 512) : ℝ :=
  ∑ b, ∑ l, P.rate b (at' c l) / 512 * 2 * grad (P.W 0) (P.W 1) (P.key b (at' c l)) (P.val b (at' c l)) p i j

/-- A chunk's weight in the running sum: its mean rate times its momentum. -/
def coef (c : Fin 16) : ℝ := (∑ b, ∑ l, P.rate b (at' c l)) / 512 * pw c

/-- The mean over chunks of the gradients less their running weighted sum, by the chunk that is weighted. -/
def g (p : Fin 2) (i j : Fin 512) : ℝ := ∑ c : Fin 16, P.u p c i j * (1 / 16 - (16 - (c.val : ℝ)) / 16 * P.coef c)

/-- The weights after the update. -/
def new (p : Fin 2) (i j : Fin 512) : ℝ :=
  P.W p i j - (num 0x3C23D70A#32 * P.g p i j / (|P.g p i j| + num 0x322BCC77#32) + num 0x38D1B717#32 * P.W p i j)

/-- What the updated memory retrieves for a token's query. -/
def ret (b : Fin 4) (t : Fin 2048) : Fin 512 → ℝ := mem (P.new 0) (P.new 1) (P.qry b t)

/-- The three projections of what is retrieved, side by side, the first divided by eight. -/
def out (b : Fin 4) (t : Fin 2048) (j : Fin 1536) : ℝ :=
  if h : j.val < 512 then lin P.Aq (P.ret b t) ⟨j.val, h⟩ / 8
  else if h : j.val < 1024 then lin P.Ak (P.ret b t) ⟨j.val - 512, by omega⟩
  else lin P.Av (P.ret b t) ⟨j.val - 1024, by omega⟩

end Par

/-- The argument arrays hold the numbers of `P`. -/
structure Are (P : Par) (x0 : FVec Ideal ⟨3, ![4, 1984, 512]⟩ .f32) (x1 : FVec Ideal ⟨2, ![64, 512]⟩ .f32) (x2 : FVec Ideal ⟨3, ![2, 512, 512]⟩ .f32)
    (x3 : FVec Ideal ⟨2, ![512, 512]⟩ .f32) (x4 : FVec Ideal ⟨1, ![512]⟩ .f32) (x5 : FVec Ideal ⟨2, ![512, 512]⟩ .f32) (x6 : FVec Ideal ⟨1, ![512]⟩ .f32)
    (x7 : FVec Ideal ⟨2, ![512, 512]⟩ .f32) (x8 : FVec Ideal ⟨1, ![512]⟩ .f32) (x9 : FVec Ideal ⟨2, ![512, 1]⟩ .f32) (x10 : FVec Ideal ⟨1, ![1]⟩ .f32)
    (x11 x12 x13 : FVec Ideal ⟨2, ![512, 512]⟩ .f32) : Prop where
  h0 : ∀ b t d, x0 (ix3 b t d) = ((P.X b t d : ℝ) : EReal)
  h1 : ∀ t d, x1 (ix2 t d) = ((P.M t d : ℝ) : EReal)
  h2 : ∀ p i j, x2 (ix3 p i j) = ((P.W p i j : ℝ) : EReal)
  h3 : ∀ i j, x3 (ix2 i j) = ((P.Wq i j : ℝ) : EReal)
  h4 : ∀ j, x4 (ix1 j) = ((P.bq j : ℝ) : EReal)
  h5 : ∀ i j, x5 (ix2 i j) = ((P.Wk i j : ℝ) : EReal)
  h6 : ∀ j, x6 (ix1 j) = ((P.bk j : ℝ) : EReal)
  h7 : ∀ i j, x7 (ix2 i j) = ((P.Wv i j : ℝ) : EReal)
  h8 : ∀ j, x8 (ix1 j) = ((P.bv j : ℝ) : EReal)
  h9 : ∀ i j, x9 (ix2 i j) = ((P.Wl i : ℝ) : EReal)
  h10 : ∀ j, x10 (ix1 j) = ((P.bl : ℝ) : EReal)
  h11 : ∀ i j, x11 (ix2 i j) = ((P.Aq i j : ℝ) : EReal)
  h12 : ∀ i j, x12 (ix2 i j) = ((P.Ak i j : ℝ) : EReal)
  h13 : ∀ i j, x13 (ix2 i j) = ((P.Av i j : ℝ) : EReal)

/-! ## The words -/

/-- A positive normal word's number. -/
theorem word_real (w : BitVec 32) (e fr : ℕ) (hs : (w.extractLsb' 31 1 == 1#1) = false) (he : (w.extractLsb' 23 8).toNat = e) (hf : (w.extractLsb' 0 23).toNat = fr)
    (h1 : e ≠ 255) (h0 : e ≠ 0) : Ideal.ofBits .f32 w = (((2 ^ 23 + fr : ℕ) * (2 : ℝ) ^ ((e : ℤ) - 127 - 23) : ℝ) : EReal) := by
  simp only [Ideal.ofBits, Ideal.ieee, Nat.reduceAdd]
  rw [he, hf, if_neg (by omega), if_neg h0, hs]
  norm_num

theorem zero_word : Ideal.ofBits .f32 0x00000000#32 = ((0 : ℝ) : EReal) := by simp [Ideal.ofBits, Ideal.ieee]
theorem one_word : Ideal.ofBits .f32 0x3F800000#32 = ((1 : ℝ) : EReal) := by
  rw [word_real _ 127 0 (by decide) (by decide) (by decide) (by decide) (by decide)]; norm_num
theorem two_word : Ideal.ofBits .f32 0x40000000#32 = ((2 : ℝ) : EReal) := by
  rw [word_real _ 128 0 (by decide) (by decide) (by decide) (by decide) (by decide)]; norm_num
theorem four_word : Ideal.ofBits .f32 0x40800000#32 = ((4 : ℝ) : EReal) := by
  rw [word_real _ 129 0 (by decide) (by decide) (by decide) (by decide) (by decide)]; norm_num
theorem eight_word : Ideal.ofBits .f32 0x41000000#32 = ((8 : ℝ) : EReal) := by
  rw [word_real _ 130 0 (by decide) (by decide) (by decide) (by decide) (by decide)]; norm_num
theorem w16_word : Ideal.ofBits .f32 0x41800000#32 = ((16 : ℝ) : EReal) := by
  rw [word_real _ 131 0 (by decide) (by decide) (by decide) (by decide) (by decide)]; norm_num
theorem w128_word : Ideal.ofBits .f32 0x43000000#32 = ((128 : ℝ) : EReal) := by
  rw [word_real _ 134 0 (by decide) (by decide) (by decide) (by decide) (by decide)]; norm_num
theorem w512_word : Ideal.ofBits .f32 0x44000000#32 = ((512 : ℝ) : EReal) := by
  rw [word_real _ 136 0 (by decide) (by decide) (by decide) (by decide) (by decide)]; norm_num
theorem w65536_word : Ideal.ofBits .f32 0x47800000#32 = ((65536 : ℝ) : EReal) := by
  rw [word_real _ 143 0 (by decide) (by decide) (by decide) (by decide) (by decide)]; norm_num
theorem eighth_word : Ideal.ofBits .f32 0x3E000000#32 = ((1/8 : ℝ) : EReal) := by
  rw [word_real _ 124 0 (by decide) (by decide) (by decide) (by decide) (by decide)]; norm_num
theorem sixteenth_word : Ideal.ofBits .f32 0x3D800000#32 = ((1/16 : ℝ) : EReal) := by
  rw [word_real _ 123 0 (by decide) (by decide) (by decide) (by decide) (by decide)]; norm_num
theorem w256th_word : Ideal.ofBits .f32 0x3B800000#32 = ((1/256 : ℝ) : EReal) := by
  rw [word_real _ 119 0 (by decide) (by decide) (by decide) (by decide) (by decide)]; norm_num

/-- A word whose exponent is not all ones stands for a real number. -/
theorem num_coe (w : BitVec 32) (h : (w.extractLsb' 23 8).toNat ≠ 2 ^ 8 - 1) : Ideal.ofBits .f32 w = ((num w : ℝ) : EReal) := by
  have e : ∃ r : ℝ, Ideal.ofBits .f32 w = (r : EReal) := by
    simp only [Ideal.ofBits, Ideal.ieee]
    rw [if_neg h]
    split
    · exact ⟨_, rfl⟩
    · exact ⟨_, rfl⟩
  obtain ⟨r, hr⟩ := e
  rw [num, hr, EReal.toReal_coe]

/-- The words of the learning rates, the momentum, the decay and the guard of the division. -/
theorem lr_word : Ideal.ofBits .f32 0x3DCCCCCD#32 = ((num 0x3DCCCCCD#32 : ℝ) : EReal) := num_coe _ (by decide)
theorem mom_word : Ideal.ofBits .f32 0x3F666666#32 = ((num 0x3F666666#32 : ℝ) : EReal) := num_coe _ (by decide)
theorem step_word : Ideal.ofBits .f32 0x3C23D70A#32 = ((num 0x3C23D70A#32 : ℝ) : EReal) := num_coe _ (by decide)
theorem eps_word : Ideal.ofBits .f32 0x322BCC77#32 = ((num 0x322BCC77#32 : ℝ) : EReal) := num_coe _ (by decide)
theorem decay_word : Ideal.ofBits .f32 0x38D1B717#32 = ((num 0x38D1B717#32 : ℝ) : EReal) := num_coe _ (by decide)

/-- The guard of the division is positive. -/
theorem eps_pos : 0 < num 0x322BCC77#32 := by
  rw [num, word_real _ 100 2870391 (by decide) (by decide) (by decide) (by decide) (by decide), EReal.toReal_coe]; positivity

/-! ## The operations on reals -/

/-- The logistic of a real. -/
theorem logistic_real (x : ℝ) : Ideal.logistic (x : EReal) = ((sg x : ℝ) : EReal) := Ideal.logistic_coe x

/-- The logistic spelled out. -/
theorem logistic_spelled (x : ℝ) : Ideal.div 1 (1 + Ideal.exp (-(x : EReal))) = ((sg x : ℝ) : EReal) := Ideal.logistic_coe x

/-- The absolute value of a real. -/
theorem abs_real (x : ℝ) : max (x : EReal) (-(x : EReal)) = ((|x| : ℝ) : EReal) := by
  rw [← EReal.coe_neg]; exact (EReal.coe_strictMono.monotone.map_max).symm

/-- A product of a row of reals with a matrix of reals. -/
theorem lin_real {n : ℕ} (W : Fin 512 → Fin n → ℝ) (v : Fin 512 → ℝ) (j : Fin n) :
    (∑ d, ((v d : ℝ) : EReal) * ((W d j : ℝ) : EReal)) = ((lin W v j : ℝ) : EReal) := Reals.coe_dot _ _

/-! ## The float operations on reals -/

theorem ofBits_ideal (w : BitVec 32) : FloatOps.ofBits (F := Ideal) .f32 w = Ideal.ofBits .f32 w := rfl
theorem mul_ideal (x y : ℝ) : FloatOps.mulf (F := Ideal) (φ := .f32) (x : EReal) (y : EReal) = ((x * y : ℝ) : EReal) := (EReal.coe_mul x y).symm
theorem add_ideal (x y : ℝ) : FloatOps.addf (F := Ideal) (φ := .f32) (x : EReal) (y : EReal) = ((x + y : ℝ) : EReal) := (EReal.coe_add x y).symm
theorem sub_ideal (x y : ℝ) : FloatOps.subf (F := Ideal) (φ := .f32) (x : EReal) (y : EReal) = ((x - y : ℝ) : EReal) := (EReal.coe_sub x y).symm
theorem neg_ideal (x : ℝ) : FloatOps.hostNegf (F := Ideal) (φ := .f32) (x : EReal) = ((-x : ℝ) : EReal) := (EReal.coe_neg x).symm
theorem abs_ideal (x : ℝ) : FloatOps.hostAbsf (F := Ideal) (φ := .f32) (x : EReal) = ((|x| : ℝ) : EReal) := abs_real x
theorem div_ideal (x y : ℝ) (h : y ≠ 0) : FloatOps.hostDivf (F := Ideal) (φ := .f32) (x : EReal) (y : EReal) = ((x / y : ℝ) : EReal) := Reals.coe_div x y h
theorem logistic_ideal (x : ℝ) : FloatOps.logistic (F := Ideal) (φ := .f32) (x : EReal) = ((sg x : ℝ) : EReal) := logistic_real x
theorem kabs_ideal (x : ℝ) : FloatOps.absf (F := Ideal) (φ := .f32) (x : EReal) = ((|x| : ℝ) : EReal) := abs_real x
theorem kdiv_ideal (x y : ℝ) (h : y ≠ 0) : FloatOps.divf (F := Ideal) (φ := .f32) (x : EReal) (y : EReal) = ((x / y : ℝ) : EReal) := Reals.coe_div x y h
/-- The logistic as the reference spells it. -/
theorem recip_real (x : ℝ) : FloatOps.hostDivf (F := Ideal) (φ := .f32) (FloatOps.ofBits .f32 0x3F800000#32)
    (FloatOps.addf (FloatOps.ofBits .f32 0x3F800000#32) (FloatOps.hostUnary .exp (FloatOps.hostNegf (x : EReal)))) = ((sg x : ℝ) : EReal) := by
  rw [ofBits_ideal, one_word]; exact logistic_spelled x
/-- A real times its complement. -/
theorem compl_real (x : ℝ) : FloatOps.mulf (F := Ideal) (φ := .f32) (x : EReal) (FloatOps.subf (FloatOps.ofBits .f32 0x3F800000#32) (x : EReal))
    = ((x * (1 - x) : ℝ) : EReal) := by
  rw [ofBits_ideal, one_word, sub_ideal, mul_ideal]

end Cert.MemSpec

end
-- ==== Proof.MemFinite.lean ====
/- Finite argument arrays of the neural memory are arrays of reals. -/
module

public import proofs.«01_k».proof.Proof.Finite
public import proofs.«01_k».proof.Proof.MemSpec
public import proofs.«01_k».proof.Pre_finite_memory
public import proofs.«01_k».proof.Proof.Gen.Pre_finite_memory

@[expose] public section

set_option maxRecDepth 16384

noncomputable section

namespace Cert.MemSpec

open Idealize.ShloMosaic Cert.Reals Cert.Pre_finite_memory

/-- What the precondition says: the arrays are real matrices'. -/
theorem are_of_finite [Facts] (x0 : FVec Ideal S4x1984x512 .f32) (x1 : FVec Ideal S64x512 .f32) (x2 : FVec Ideal S2x512x512 .f32) (x3 : FVec Ideal S512x512 .f32) (x4 : FVec Ideal S512 .f32) (x5 : FVec Ideal S512x512 .f32) (x6 : FVec Ideal S512 .f32) (x7 : FVec Ideal S512x512 .f32) (x8 : FVec Ideal S512 .f32) (x9 : FVec Ideal S512x1 .f32) (x10 : FVec Ideal S1 .f32) (x11 : FVec Ideal S512x512 .f32) (x12 : FVec Ideal S512x512 .f32) (x13 : FVec Ideal S512x512 .f32)
    (h : fn (F := Ideal) x0 x1 x2 x3 x4 x5 x6 x7 x8 x9 x10 x11 x12 x13 = fun _ => 1#1) : ∃ P : Par, Are P x0 x1 x2 x3 x4 x5 x6 x7 x8 x9 x10 x11 x12 x13 := by
  haveI : Subsingleton S_.Idx := ⟨fun a b => funext fun k => k.elim0⟩
  have h' := congrFun h ix0
  unfold fn fn_part1 fn_part2 fn_part3 fn_part4 at h'
  obtain ⟨h', a13⟩ := IntOp.andi_eq_one.mp h'
  obtain ⟨h', a12⟩ := IntOp.andi_eq_one.mp h'
  obtain ⟨h', a11⟩ := IntOp.andi_eq_one.mp h'
  obtain ⟨h', a10⟩ := IntOp.andi_eq_one.mp h'
  obtain ⟨h', a9⟩ := IntOp.andi_eq_one.mp h'
  obtain ⟨h', a8⟩ := IntOp.andi_eq_one.mp h'
  obtain ⟨h', a7⟩ := IntOp.andi_eq_one.mp h'
  obtain ⟨h', a6⟩ := IntOp.andi_eq_one.mp h'
  obtain ⟨h', a5⟩ := IntOp.andi_eq_one.mp h'
  obtain ⟨h', a4⟩ := IntOp.andi_eq_one.mp h'
  obtain ⟨h', a3⟩ := IntOp.andi_eq_one.mp h'
  obtain ⟨h', a2⟩ := IntOp.andi_eq_one.mp h'
  obtain ⟨h', a1⟩ := IntOp.andi_eq_one.mp h'
  choose f13 e13 using fun i => finite_of_abs (x13 i) (Host.reduce_andi_all _ _ _ _ _ a13 i)
  choose f12 e12 using fun i => finite_of_abs (x12 i) (Host.reduce_andi_all _ _ _ _ _ a12 i)
  choose f11 e11 using fun i => finite_of_abs (x11 i) (Host.reduce_andi_all _ _ _ _ _ a11 i)
  choose f10 e10 using fun i => finite_of_abs (x10 i) (Host.reduce_andi_all _ _ _ _ _ a10 i)
  choose f9 e9 using fun i => finite_of_abs (x9 i) (Host.reduce_andi_all _ _ _ _ _ a9 i)
  choose f8 e8 using fun i => finite_of_abs (x8 i) (Host.reduce_andi_all _ _ _ _ _ a8 i)
  choose f7 e7 using fun i => finite_of_abs (x7 i) (Host.reduce_andi_all _ _ _ _ _ a7 i)
  choose f6 e6 using fun i => finite_of_abs (x6 i) (Host.reduce_andi_all _ _ _ _ _ a6 i)
  choose f5 e5 using fun i => finite_of_abs (x5 i) (Host.reduce_andi_all _ _ _ _ _ a5 i)
  choose f4 e4 using fun i => finite_of_abs (x4 i) (Host.reduce_andi_all _ _ _ _ _ a4 i)
  choose f3 e3 using fun i => finite_of_abs (x3 i) (Host.reduce_andi_all _ _ _ _ _ a3 i)
  choose f2 e2 using fun i => finite_of_abs (x2 i) (Host.reduce_andi_all _ _ _ _ _ a2 i)
  choose f1 e1 using fun i => finite_of_abs (x1 i) (Host.reduce_andi_all _ _ _ _ _ a1 i)
  choose f0 e0 using fun i => finite_of_abs (x0 i) (Host.reduce_andi_all _ _ _ _ _ h' i)
  refine ⟨⟨fun a b d => f0 (ix3 a b d), fun a b => f1 (ix2 a b), fun a b d => f2 (ix3 a b d), fun a b => f3 (ix2 a b), fun a => f4 (ix1 a), fun a b => f5 (ix2 a b), fun a => f6 (ix1 a), fun a b => f7 (ix2 a b), fun a => f8 (ix1 a), fun a => f9 (ix2 a 0), f10 (ix1 0), fun a b => f11 (ix2 a b), fun a b => f12 (ix2 a b), fun a b => f13 (ix2 a b)⟩, ?_⟩
  refine ⟨fun a b d => e0 _, fun a b => e1 _, fun a b d => e2 _, fun a b => e3 _, fun a => e4 _, fun a b => e5 _, fun a => e6 _, fun a b => e7 _, fun a => e8 _, fun a b => ?_, fun a => ?_,
    fun a b => e11 _, fun a b => e12 _, fun a b => e13 _⟩
  · rw [Subsingleton.elim b 0]; exact e9 _
  · rw [Subsingleton.elim a 0]; exact e10 _

end Cert.MemSpec

end
-- ==== Proof.MemRefTokens.lean ====
/- The neural-memory reference read at an index: tokens, their projections, learning rates, and the weights. -/
module

public import proofs.«01_k».proof.Proof.MemSpec
public import proofs.«01_k».proof.Proof.Gen.MemoryRefIdeal.Read
public import Idealize.ShloMosaic.Lib.Pointwise

@[expose] public section

set_option maxRecDepth 16384

noncomputable section

namespace Cert.MemoryRefIdeal.Spec

open Cert.MemoryRefIdeal Cert.MemoryRefIdeal.Gen Cert.MemoryRefIdeal.Read Idealize.ShloMosaic Idealize.ShloMosaic.TcCoe Cert.MemSpec Cert.Reals

variable {P : Par} {x0 : FVec Ideal ⟨3, ![4, 1984, 512]⟩ .f32} {x1 : FVec Ideal ⟨2, ![64, 512]⟩ .f32} {x2 : FVec Ideal ⟨3, ![2, 512, 512]⟩ .f32}
  {x3 : FVec Ideal ⟨2, ![512, 512]⟩ .f32} {x4 : FVec Ideal ⟨1, ![512]⟩ .f32} {x5 : FVec Ideal ⟨2, ![512, 512]⟩ .f32} {x6 : FVec Ideal ⟨1, ![512]⟩ .f32}
  {x7 : FVec Ideal ⟨2, ![512, 512]⟩ .f32} {x8 : FVec Ideal ⟨1, ![512]⟩ .f32} {x9 : FVec Ideal ⟨2, ![512, 1]⟩ .f32} {x10 : FVec Ideal ⟨1, ![1]⟩ .f32}
  {x11 x12 x13 : FVec Ideal ⟨2, ![512, 512]⟩ .f32} (h : Are P x0 x1 x2 x3 x4 x5 x6 x7 x8 x9 x10 x11 x12 x13)

include h in
/-- The tokens: the meta memory's rows before the arguments'. -/
theorem tok_apply (b : Fin 4) (t : Fin 2048) (d : Fin 512) : val_main_v2 (F := Ideal) x0 x1 (ix3 b t d) = ((P.tok b t d : ℝ) : EReal) := by
  have h0 := h.h0
  have h1 := h.h1
  unfold val_main_v2 val_main_v1 val_main_v0 Par.tok
  pointwise
  split
  · rw [h1]
  · rw [h0]

include h in
/-- Keys. -/
theorem key_apply (b : Fin 4) (t : Fin 2048) (j : Fin 512) : val_main_v6 (F := Ideal) x0 x1 x5 x6 (ix3 b t j) = ((P.key b t j : ℝ) : EReal) := by
  have ht := tok_apply h
  have hw := h.h5
  have hb := h.h6
  unfold val_main_v6 val_main_v5 val_main_v4 val_main_v3
  generalize val_main_v2 (F := Ideal) x0 x1 = y at ht ⊢
  pointwise
  simp only [ht, hw, hb]
  rw [lin_real, ← EReal.coe_add]
  rfl

include h in
/-- Values. -/
theorem val_apply (b : Fin 4) (t : Fin 2048) (j : Fin 512) : val_main_v11 (F := Ideal) x0 x1 x7 x8 (ix3 b t j) = ((P.val b t j : ℝ) : EReal) := by
  have ht := tok_apply h
  have hw := h.h7
  have hb := h.h8
  unfold val_main_v11 val_main_v10 val_main_v9 val_main_v8
  generalize val_main_v2 (F := Ideal) x0 x1 = y at ht ⊢
  pointwise
  simp only [ht, hw, hb]
  rw [lin_real, ← EReal.coe_add]
  rfl

include h in
/-- Queries. -/
theorem qry_apply (b : Fin 4) (t : Fin 2048) (j : Fin 512) : val_main_v29 (F := Ideal) x0 x1 x3 x4 (ix3 b t j) = ((P.qry b t j : ℝ) : EReal) := by
  have ht := tok_apply h
  have hw := h.h3
  have hb := h.h4
  unfold val_main_v29 val_main_v28 val_main_v27 val_main_v26
  generalize val_main_v2 (F := Ideal) x0 x1 = y at ht ⊢
  pointwise
  simp only [ht, hw, hb]
  rw [lin_real, ← EReal.coe_add]
  rfl

include h in
/-- The learning rates. -/
theorem rate_apply (b : Fin 4) (t : Fin 2048) : val_main_v24 (F := Ideal) x0 x1 x9 x10 (ix3 b t 0) = ((P.rate b t : ℝ) : EReal) := by
  have ht := tok_apply h
  have hw := h.h9
  have hb := h.h10
  unfold val_main_v24 val_main_v23 val_main_v22 val_main_v21 val_main_v20 val_main_v19 val_main_v18 val_main_v17 val_main_v16 val_main_v15 val_main_v14 val_main_v13
    val_main_cst val_main_cst_0 val_main_cst_1
  generalize val_main_v2 (F := Ideal) x0 x1 = y at ht ⊢
  pointwise
  simp only [ht, hw, hb]
  rw [coe_dot, ← EReal.coe_add, logistic_spelled, lr_word, ← EReal.coe_mul]
  rfl

include h in
/-- Keys by chunk. -/
theorem keys_apply (b : Fin 4) (c : Fin 16) (l : Fin 128) (j : Fin 512) :
    val_main_v7 (F := Ideal) x0 x1 x5 x6 (ix4 b c l j) = ((P.key b (Par.at' c l) j : ℝ) : EReal) := by
  have hk := key_apply h
  unfold val_main_v7
  generalize val_main_v6 (F := Ideal) x0 x1 x5 x6 = y at hk ⊢
  pointwise
  exact hk _ _ _

include h in
/-- Values by chunk. -/
theorem vals_apply (b : Fin 4) (c : Fin 16) (l : Fin 128) (j : Fin 512) :
    val_main_v12 (F := Ideal) x0 x1 x7 x8 (ix4 b c l j) = ((P.val b (Par.at' c l) j : ℝ) : EReal) := by
  have hk := val_apply h
  unfold val_main_v12
  generalize val_main_v11 (F := Ideal) x0 x1 x7 x8 = y at hk ⊢
  pointwise
  exact hk _ _ _

include h in
/-- Learning rates by chunk. -/
theorem rates_apply (b : Fin 4) (c : Fin 16) (l : Fin 128) :
    val_main_v25 (F := Ideal) x0 x1 x9 x10 (ix4 b c l 0) = ((P.rate b (Par.at' c l) : ℝ) : EReal) := by
  have hk := rate_apply h
  unfold val_main_v25
  generalize val_main_v24 (F := Ideal) x0 x1 x9 x10 = y at hk ⊢
  pointwise
  exact hk _ _

include h in
/-- The two layers' weights. -/
theorem w0_apply (i j : Fin 512) : val_main_v31 (F := Ideal) x2 (ix2 i j) = ((P.W 0 i j : ℝ) : EReal) := by
  have h2 := h.h2
  unfold val_main_v31 val_main_v30
  pointwise
  exact h2 _ _ _

include h in
theorem w1_apply (i j : Fin 512) : val_main_v36 (F := Ideal) x2 (ix2 i j) = ((P.W 1 i j : ℝ) : EReal) := by
  have h2 := h.h2
  unfold val_main_v36 val_main_v35
  pointwise
  exact h2 _ _ _

end Cert.MemoryRefIdeal.Spec

end
-- ==== Proof.MemRefLayers.lean ====
/- The neural-memory reference read at an index: the memory on the keys and the gradient of its loss, layer by layer. -/
module

public import proofs.«01_k».proof.Proof.MemRefTokens
public import proofs.«01_k».proof.Proof.Reals

@[expose] public section

set_option maxRecDepth 16384

noncomputable section

namespace Cert.MemoryRefIdeal.Spec

open Cert.MemoryRefIdeal Cert.MemoryRefIdeal.Gen Cert.MemoryRefIdeal.Read Idealize.ShloMosaic Idealize.ShloMosaic.TcCoe Cert.MemSpec Cert.Reals

variable {P : Par} {x0 : FVec Ideal ⟨3, ![4, 1984, 512]⟩ .f32} {x1 : FVec Ideal ⟨2, ![64, 512]⟩ .f32} {x2 : FVec Ideal ⟨3, ![2, 512, 512]⟩ .f32}
  {x3 : FVec Ideal ⟨2, ![512, 512]⟩ .f32} {x4 : FVec Ideal ⟨1, ![512]⟩ .f32} {x5 : FVec Ideal ⟨2, ![512, 512]⟩ .f32} {x6 : FVec Ideal ⟨1, ![512]⟩ .f32}
  {x7 : FVec Ideal ⟨2, ![512, 512]⟩ .f32} {x8 : FVec Ideal ⟨1, ![512]⟩ .f32} {x9 : FVec Ideal ⟨2, ![512, 1]⟩ .f32} {x10 : FVec Ideal ⟨1, ![1]⟩ .f32}
  {x11 x12 x13 : FVec Ideal ⟨2, ![512, 512]⟩ .f32} (h : Are P x0 x1 x2 x3 x4 x5 x6 x7 x8 x9 x10 x11 x12 x13)

/-- A token's key and value, by chunk. -/
abbrev kk (P : Par) (b : Fin 4) (c : Fin 16) (l : Fin 128) : Fin 512 → ℝ := P.key b (Par.at' c l)
abbrev vv (P : Par) (b : Fin 4) (c : Fin 16) (l : Fin 128) : Fin 512 → ℝ := P.val b (Par.at' c l)
/-- A token's weight in the loss's gradient. -/
def wgt (P : Par) (b : Fin 4) (c : Fin 16) (l : Fin 128) : ℝ := P.rate b (Par.at' c l) / 512 * 2

include h in
/-- The first layer's product, -/
theorem a0_apply (b : Fin 4) (c : Fin 16) (l : Fin 128) (j : Fin 512) :
    val_main_v32 (F := Ideal) x0 x1 x2 x5 x6 (ix4 b c l j) = ((lin (P.W 0) (kk P b c l) j : ℝ) : EReal) := by
  have hk := keys_apply h
  have hw := w0_apply h
  unfold val_main_v32
  generalize val_main_v7 (F := Ideal) x0 x1 x5 x6 = y at hk ⊢
  generalize val_main_v31 (F := Ideal) x2 = w at hw ⊢
  pointwise
  simp only [hk, hw]
  exact lin_real _ _ _

include h in
/-- its logistic, -/
theorem s0_apply (b : Fin 4) (c : Fin 16) (l : Fin 128) (j : Fin 512) :
    val_main_v33_2 (F := Ideal) x0 x1 x2 x5 x6 (ix4 b c l j) = ((sg (lin (P.W 0) (kk P b c l) j) : ℝ) : EReal) := by
  have ha := a0_apply h b c l j
  rw [val_main_v33_2_apply, val_main_call0_v4_apply, val_main_call0_v3_apply, val_main_call0_v2_apply, val_main_call0_v1_apply, val_main_call0_v0_apply,
    val_main_call0_cst_apply, val_main_call0_cst_0_apply, ha]
  exact recip_real _

include h in
/-- and that times its complement. -/
theorem t0_apply (b : Fin 4) (c : Fin 16) (l : Fin 128) (j : Fin 512) :
    val_main_v33_1 (F := Ideal) x0 x1 x2 x5 x6 (ix4 b c l j) = ((sg (lin (P.W 0) (kk P b c l) j) * (1 - sg (lin (P.W 0) (kk P b c l) j)) : ℝ) : EReal) := by
  have hs := s0_apply h b c l j
  rw [val_main_v33_1_apply, val_main_call0_v7_apply, val_main_call0_v6_apply, val_main_call0_cst_1_apply, hs]
  exact compl_real _

include h in
/-- The first layer's output. -/
theorem z1_apply (b : Fin 4) (c : Fin 16) (l : Fin 128) (j : Fin 512) :
    val_main_v34 (F := Ideal) x0 x1 x2 x5 x6 (ix4 b c l j) = ((layer (P.W 0) (kk P b c l) j : ℝ) : EReal) := by
  have hk := keys_apply h b c l j
  have ha := a0_apply h b c l j
  have hs := s0_apply h b c l j
  rw [val_main_v34_apply, val_main_v33_0_apply, hk, ha, hs, mul_ideal, add_ideal]
  rfl

include h in
/-- The second layer's product, -/
theorem a1_apply (b : Fin 4) (c : Fin 16) (l : Fin 128) (j : Fin 512) :
    val_main_v37 (F := Ideal) x0 x1 x2 x5 x6 (ix4 b c l j) = ((lin (P.W 1) (layer (P.W 0) (kk P b c l)) j : ℝ) : EReal) := by
  have hk := z1_apply h
  have hw := w1_apply h
  unfold val_main_v37
  generalize val_main_v34 (F := Ideal) x0 x1 x2 x5 x6 = y at hk ⊢
  generalize val_main_v36 (F := Ideal) x2 = w at hw ⊢
  pointwise
  simp only [hk, hw]
  exact lin_real _ _ _

include h in
/-- its logistic, -/
theorem s1_apply (b : Fin 4) (c : Fin 16) (l : Fin 128) (j : Fin 512) :
    val_main_v38_2 (F := Ideal) x0 x1 x2 x5 x6 (ix4 b c l j) = ((sg (lin (P.W 1) (layer (P.W 0) (kk P b c l)) j) : ℝ) : EReal) := by
  have ha := a1_apply h b c l j
  rw [val_main_v38_2_apply, val_main_call1_v4_apply, val_main_call1_v3_apply, val_main_call1_v2_apply, val_main_call1_v1_apply, val_main_call1_v0_apply,
    val_main_call1_cst_apply, val_main_call1_cst_0_apply, ha]
  exact recip_real _

include h in
/-- and that times its complement. -/
theorem t1_apply (b : Fin 4) (c : Fin 16) (l : Fin 128) (j : Fin 512) :
    val_main_v38_1 (F := Ideal) x0 x1 x2 x5 x6 (ix4 b c l j)
      = ((sg (lin (P.W 1) (layer (P.W 0) (kk P b c l)) j) * (1 - sg (lin (P.W 1) (layer (P.W 0) (kk P b c l)) j)) : ℝ) : EReal) := by
  have hs := s1_apply h b c l j
  rw [val_main_v38_1_apply, val_main_call1_v7_apply, val_main_call1_v6_apply, val_main_call1_cst_1_apply, hs]
  exact compl_real _

include h in
/-- The error. -/
theorem e1_apply (b : Fin 4) (c : Fin 16) (l : Fin 128) (j : Fin 512) :
    val_main_v40 (F := Ideal) x0 x1 x2 x5 x6 x7 x8 (ix4 b c l j) = ((err1 (P.W 0) (P.W 1) (kk P b c l) (vv P b c l) j : ℝ) : EReal) := by
  have hz := z1_apply h b c l j
  have hv := vals_apply h b c l j
  have ha := a1_apply h b c l j
  have hs := s1_apply h b c l j
  rw [val_main_v40_apply, val_main_v39_apply, val_main_v38_0_apply, hz, hv, ha, hs, mul_ideal, add_ideal, sub_ideal]
  rfl

/-- The two leading axes exchanged. -/
theorem swap_apply (y : FVec Ideal S4x16x128x512 .f32) (b : Fin 4) (c : Fin 16) (l : Fin 128) (j : Fin 512) :
    transpose S16x4x128x512 [1, 0, 2, 3] y transposes_S4x16x128x512_S16x4x128x512_1_0_2_3 (ix4 c b l j) = y (ix4 b c l j) := by
  pointwise

include h in
/-- Learning rates with the chunk first. -/
theorem rate_by (c : Fin 16) (b : Fin 4) (l : Fin 128) :
    val_main_v48 (F := Ideal) x0 x1 x9 x10 (ix3 c b l) = ((P.rate b (Par.at' c l) : ℝ) : EReal) := by
  have hr := rates_apply h
  unfold val_main_v48 val_main_v47
  generalize val_main_v25 (F := Ideal) x0 x1 x9 x10 = y at hr ⊢
  pointwise
  exact hr _ _ _

include h in
/-- Twice the error. -/
theorem up_tail (c : Fin 16) (b : Fin 4) (l : Fin 128) (j : Fin 512) :
    val_main_v59 (F := Ideal) x0 x1 x2 x5 x6 x7 x8 (ix4 c b l j) = ((2 * err1 (P.W 0) (P.W 1) (kk P b c l) (vv P b c l) j : ℝ) : EReal) := by
  have he := e1_apply h b c l j
  unfold val_main_v59
  rw [swap_apply, val_main_v43_apply, val_main_v42_apply, val_main_cst_2_apply, he, ofBits_ideal, two_word, mul_ideal]

include h in
/-- The weight of a token. -/
theorem up_weight (c : Fin 16) (b : Fin 4) (l : Fin 128) (j : Fin 512) :
    val_main_v58 (F := Ideal) x0 x1 x9 x10 (ix4 c b l j) = ((P.rate b (Par.at' c l) / 512 : ℝ) : EReal) := by
  have hr := rate_by h c b l
  have e : val_main_v58 (F := Ideal) x0 x1 x9 x10 (ix4 c b l j) = val_main_v57 (F := Ideal) x0 x1 x9 x10 (ix3 c b l) := by
    unfold val_main_v58
    generalize val_main_v57 (F := Ideal) x0 x1 x9 x10 = y
    pointwise
  rw [e, val_main_v57_apply, val_main_v56_apply, val_main_cst_7_apply, val_main_v55_apply, val_main_v54_apply, val_main_v53_apply, val_main_v52_apply,
    val_main_cst_6_apply, hr, ofBits_ideal, ofBits_ideal, one_word, w512_word, mul_ideal, one_mul, div_ideal _ _ (by norm_num)]

include h in
/-- The gradient of the loss at the memory's output. -/
theorem up_apply (b : Fin 4) (c : Fin 16) (l : Fin 128) (j : Fin 512) :
    val_main_v60 (F := Ideal) x0 x1 x2 x5 x6 x7 x8 x9 x10 (ix4 c b l j)
      = ((wgt P b c l * err1 (P.W 0) (P.W 1) (kk P b c l) (vv P b c l) j : ℝ) : EReal) := by
  have he := e1_apply h b c l j
  rw [val_main_v60_apply, up_tail h c b l j, up_weight h c b l j, mul_ideal, wgt]
  exact congrArg _ (by ring)

include h in
/-- It carried through the second layer's activation, -/
theorem d1_apply (b : Fin 4) (c : Fin 16) (l : Fin 128) (j : Fin 512) :
    val_main_v61 (F := Ideal) x0 x1 x2 x5 x6 x7 x8 x9 x10 (ix4 c b l j)
      = ((wgt P b c l * sl1 (P.W 0) (P.W 1) (kk P b c l) (vv P b c l) j : ℝ) : EReal) := by
  have hu := up_apply h b c l j
  have hs := s1_apply h b c l j
  have ht := t1_apply h b c l j
  have ha := a1_apply h b c l j
  rw [val_main_v61_apply, val_main_call2_v5_apply, val_main_call2_v3_apply, val_main_call2_v1_apply]
  unfold val_main_call2_v4 val_main_call2_v2 val_main_call2_v0
  rw [swap_apply, swap_apply, swap_apply, hu, hs, ht, ha, mul_ideal, mul_ideal, mul_ideal, add_ideal]
  exact congrArg _ (by rw [sl1, ds]; ring)

include h in
/-- at the first layer's output, -/
theorem e0_apply (b : Fin 4) (c : Fin 16) (l : Fin 128) (j : Fin 512) :
    val_main_v65 (F := Ideal) x0 x1 x2 x5 x6 x7 x8 x9 x10 (ix4 c b l j)
      = ((wgt P b c l * err0 (P.W 0) (P.W 1) (kk P b c l) (vv P b c l) j : ℝ) : EReal) := by
  have hu := up_apply h
  have hd := d1_apply h
  have hw := w1_apply h
  unfold val_main_v65 val_main_v64
  generalize val_main_v60 (F := Ideal) x0 x1 x2 x5 x6 x7 x8 x9 x10 = y at hu ⊢
  generalize val_main_v61 (F := Ideal) x0 x1 x2 x5 x6 x7 x8 x9 x10 = y at hd ⊢
  generalize val_main_v36 (F := Ideal) x2 = y at hw ⊢
  pointwise
  simp only [hu, hd, hw]
  rw [coe_dot, ← EReal.coe_add, err0, mul_add, Finset.mul_sum]
  simp only [mul_assoc]

include h in
/-- and through the first layer's activation. -/
theorem d0_apply (b : Fin 4) (c : Fin 16) (l : Fin 128) (j : Fin 512) :
    val_main_v68 (F := Ideal) x0 x1 x2 x5 x6 x7 x8 x9 x10 (ix4 c b l j)
      = ((wgt P b c l * sl0 (P.W 0) (P.W 1) (kk P b c l) (vv P b c l) j : ℝ) : EReal) := by
  have hu := e0_apply h b c l j
  have hs := s0_apply h b c l j
  have ht := t0_apply h b c l j
  have ha := a0_apply h b c l j
  rw [val_main_v68_apply, val_main_call3_v5_apply, val_main_call3_v3_apply, val_main_call3_v1_apply]
  unfold val_main_call3_v4 val_main_call3_v2 val_main_call3_v0
  rw [swap_apply, swap_apply, swap_apply, hu, hs, ht, ha, mul_ideal, mul_ideal, mul_ideal, add_ideal]
  exact congrArg _ (by rw [sl0, ds]; ring)

end Cert.MemoryRefIdeal.Spec

end
-- ==== Proof.MemRefOps.lean ====
/- The operations of the neural-memory reference over many axes read at an index: the contraction over batch and token, the running sum, the pads, and the sums over an axis. -/
module

public import proofs.«01_k».proof.Proof.MemSpec
public import proofs.«01_k».proof.Proof.Gen.MemoryRefIdeal.Read
public import Idealize.ShloMosaic.Lib.TwoAxisContraction
public import Idealize.ShloMosaic.Lib.KernelVsHost

@[expose] public section

set_option maxRecDepth 16384

noncomputable section

namespace Cert.MemoryRefIdeal.Spec

open Cert.MemoryRefIdeal Cert.MemoryRefIdeal.Gen Cert.MemoryRefIdeal.Read Idealize.ShloMosaic Idealize.ShloMosaic.TcCoe Cert.MemSpec Cert.Reals

/-- The contraction over batch and token, chunk by chunk. -/
abbrev D2 := dot_S16x4x128x512_S4x16x128x512_S16x512x512_12_02_3_3_0_1

theorem lhs_0 (i : S16x512x512.Idx) (q : D2.contr.Idx) : (D2.lhsIdx i q 0).val = (i 0).val := by
  unfold DotDims.lhsIdx
  rw [dif_pos (show (0 : Fin S16x4x128x512.rank) ∈ D2.lhsBatch by decide)]
  rfl
theorem lhs_1 (i : S16x512x512.Idx) (q : D2.contr.Idx) : (D2.lhsIdx i q 1).val = (q ⟨0, by decide⟩).val := by
  unfold DotDims.lhsIdx
  rw [dif_neg (show ¬(1 : Fin S16x4x128x512.rank) ∈ D2.lhsBatch by decide), dif_neg (show ¬(1 : Fin S16x4x128x512.rank) ∈ D2.lhsNonContracting by decide)]
  rfl
theorem lhs_2 (i : S16x512x512.Idx) (q : D2.contr.Idx) : (D2.lhsIdx i q 2).val = (q ⟨1, by decide⟩).val := by
  unfold DotDims.lhsIdx
  rw [dif_neg (show ¬(2 : Fin S16x4x128x512.rank) ∈ D2.lhsBatch by decide), dif_neg (show ¬(2 : Fin S16x4x128x512.rank) ∈ D2.lhsNonContracting by decide)]
  rfl
theorem lhs_3 (i : S16x512x512.Idx) (q : D2.contr.Idx) : (D2.lhsIdx i q 3).val = (i 1).val := by
  unfold DotDims.lhsIdx
  rw [dif_neg (show ¬(3 : Fin S16x4x128x512.rank) ∈ D2.lhsBatch by decide), dif_pos (show (3 : Fin S16x4x128x512.rank) ∈ D2.lhsNonContracting by decide)]
  rfl
theorem rhs_0 (i : S16x512x512.Idx) (q : D2.contr.Idx) : (D2.rhsIdx i q 0).val = (q ⟨0, by decide⟩).val := by
  unfold DotDims.rhsIdx
  rw [dif_neg (show ¬(0 : Fin S4x16x128x512.rank) ∈ D2.rhsBatch by decide), dif_neg (show ¬(0 : Fin S4x16x128x512.rank) ∈ D2.rhsNonContracting by decide)]
  rfl
theorem rhs_1 (i : S16x512x512.Idx) (q : D2.contr.Idx) : (D2.rhsIdx i q 1).val = (i 0).val := by
  unfold DotDims.rhsIdx
  rw [dif_pos (show (1 : Fin S4x16x128x512.rank) ∈ D2.rhsBatch by decide)]
  rfl
theorem rhs_2 (i : S16x512x512.Idx) (q : D2.contr.Idx) : (D2.rhsIdx i q 2).val = (q ⟨1, by decide⟩).val := by
  unfold DotDims.rhsIdx
  rw [dif_neg (show ¬(2 : Fin S4x16x128x512.rank) ∈ D2.rhsBatch by decide), dif_neg (show ¬(2 : Fin S4x16x128x512.rank) ∈ D2.rhsNonContracting by decide)]
  rfl
theorem rhs_3 (i : S16x512x512.Idx) (q : D2.contr.Idx) : (D2.rhsIdx i q 3).val = (i 2).val := by
  unfold DotDims.rhsIdx
  rw [dif_neg (show ¬(3 : Fin S4x16x128x512.rank) ∈ D2.rhsBatch by decide), dif_pos (show (3 : Fin S4x16x128x512.rank) ∈ D2.rhsNonContracting by decide)]
  rfl

/-- A product contracted over batch and token is the double sum. -/
theorem dot2_apply (y : FVec Ideal S16x4x128x512 .f32) (z : FVec Ideal S4x16x128x512 .f32) (c : Fin 16) (o i : Fin 512) :
    Host.dotGeneral (F := Ideal) D2 none y z (ix3 c o i) = ∑ b : Fin 4, ∑ l : Fin 128, y (ix4 c b l o) * z (ix4 b c l i) := by
  simp only [Host.dotGeneral]
  rw [Ideal.dotGeneral_apply, ValueIdx.sum_contr2 D2 4 128 rfl rfl rfl]
  refine Finset.sum_congr rfl fun b _ => Finset.sum_congr rfl fun l _ => ?_
  have h0 := ValueIdx.contrEquiv2_symm_val0 D2 4 128 rfl rfl rfl (b, l)
  have h1 := ValueIdx.contrEquiv2_symm_val1 D2 4 128 rfl rfl rfl (b, l)
  refine congrArg₂ (· * ·) (congrArg y (funext fun a => Fin.ext ?_)) (congrArg z (funext fun a => Fin.ext ?_))
  · match a with
    | ⟨0, _⟩ => exact lhs_0 _ _
    | ⟨1, _⟩ => exact (lhs_1 _ _).trans h0
    | ⟨2, _⟩ => exact (lhs_2 _ _).trans h1
    | ⟨3, _⟩ => exact lhs_3 _ _
  · match a with
    | ⟨0, _⟩ => exact (rhs_0 _ _).trans h0
    | ⟨1, _⟩ => exact rhs_1 _ _
    | ⟨2, _⟩ => exact (rhs_2 _ _).trans h1
    | ⟨3, _⟩ => exact rhs_3 _ _

/-- Left fold of a sum of reals. -/
theorem foldl_real {n : ℕ} (F : Fin n → EReal) (G : ℕ → ℝ) (h : ∀ k, F k = ((G k.val : ℝ) : EReal)) (l : List (Fin n)) (r : ℝ) :
    l.foldl (fun s k => s + F k) (r : EReal) = ((r + (l.map fun k => G k.val).sum : ℝ) : EReal) := by
  induction l generalizing r with
  | nil => simp
  | cons k l ih => rw [List.foldl_cons, h, ← EReal.coe_add, ih, List.map_cons, List.sum_cons, add_assoc]

/-- A window that ends at `c`, shifted onto the positions it covers. -/
theorem window_sum (f : ℕ → ℝ) (c : ℕ) (hc : c < 16) :
    ∑ w ∈ Finset.range 16, (if 15 ≤ c + w then f (c + w - 15) else 0) = ∑ k ∈ Finset.range 16, if k ≤ c then f k else 0 := by
  rw [← Finset.sum_filter, ← Finset.sum_filter]
  refine Finset.sum_nbij' (fun w => c + w - 15) (fun k => k + 15 - c) ?_ ?_ ?_ ?_ fun _ _ => rfl
  all_goals
    intro a ha
    simp only [Finset.mem_filter, Finset.mem_range] at ha ⊢
    omega

theorem row_symm : ∀ n : Fin (⟨4, ![1, 16, 1, 1]⟩ : Shape).numel, ((⟨4, ![1, 16, 1, 1]⟩ : Shape).rowMajor.symm n 0).val = 0
    ∧ ((⟨4, ![1, 16, 1, 1]⟩ : Shape).rowMajor.symm n 1).val = n.val ∧ ((⟨4, ![1, 16, 1, 1]⟩ : Shape).rowMajor.symm n 2).val = 0
    ∧ ((⟨4, ![1, 16, 1, 1]⟩ : Shape).rowMajor.symm n 3).val = 0 := by decide +kernel

/-- The running sum along the chunks. -/
theorem cumsum_apply (x : FVec Ideal S2x16x512x512 .f32) (f : ℕ → ℝ) (p : Fin 2) (i j : Fin 512) (hx : ∀ k : Fin 16, x (ix4 p k i j) = ((f k.val : ℝ) : EReal)) (c : Fin 16) :
    Host.reduceWindow (· + ·) ![1, 16, 1, 1] ![1, 1, 1, 1] ![0, 15, 0, 0] ![0, 0, 0, 0] x (fun _ : (⟨0, ![]⟩ : Shape).Idx => (((0 : ℝ) : EReal)))
        reduceWindows_S2x16x512x512_S2x16x512x512_w1s1p0_0_w16s1p15_0_w1s1p0_0_w1s1p0_0 (by decide) (ix4 p c i j)
      = ((∑ k : Fin 16, (if k ≤ c then f k.val else 0) : ℝ) : EReal) := by
  unfold Host.reduceWindow
  refine (foldl_real _ (fun w => if 15 ≤ c.val + w then f (c.val + w - 15) else 0) (fun n => ?_) _ 0).trans ?_
  · obtain ⟨w0, w1, w2, w3⟩ := row_symm n
    have hn : n.val < 16 := n.isLt
    have hc := c.isLt
    have hp := p.isLt
    have hi := i.isLt
    have hj := j.isLt
    dsimp only
    split
    · next hin =>
      have h1 := hin 1
      change 15 ≤ c.val * 1 + ((⟨4, ![1, 16, 1, 1]⟩ : Shape).rowMajor.symm n 1).val ∧ c.val * 1 + ((⟨4, ![1, 16, 1, 1]⟩ : Shape).rowMajor.symm n 1).val - 15 < 16 at h1
      rw [w1] at h1
      rw [if_pos (by omega)]
      refine (congrArg x (funext fun a => Fin.ext ?_)).trans (hx ⟨c.val + n.val - 15, by omega⟩)
      match a with
      | ⟨0, _⟩ => show p.val * 1 + ((⟨4, ![1, 16, 1, 1]⟩ : Shape).rowMajor.symm n 0).val - 0 = p.val; rw [w0]; omega
      | ⟨1, _⟩ => show c.val * 1 + ((⟨4, ![1, 16, 1, 1]⟩ : Shape).rowMajor.symm n 1).val - 15 = c.val + n.val - 15; rw [w1]; omega
      | ⟨2, _⟩ => show i.val * 1 + ((⟨4, ![1, 16, 1, 1]⟩ : Shape).rowMajor.symm n 2).val - 0 = i.val; rw [w2]; omega
      | ⟨3, _⟩ => show j.val * 1 + ((⟨4, ![1, 16, 1, 1]⟩ : Shape).rowMajor.symm n 3).val - 0 = j.val; rw [w3]; omega
    · next hin =>
      rw [if_neg fun hle => hin fun a => by
        match a with
        | ⟨0, _⟩ =>
          show 0 ≤ p.val * 1 + ((⟨4, ![1, 16, 1, 1]⟩ : Shape).rowMajor.symm n 0).val ∧ p.val * 1 + ((⟨4, ![1, 16, 1, 1]⟩ : Shape).rowMajor.symm n 0).val - 0 < 2
          rw [w0]; omega
        | ⟨1, _⟩ =>
          show 15 ≤ c.val * 1 + ((⟨4, ![1, 16, 1, 1]⟩ : Shape).rowMajor.symm n 1).val ∧ c.val * 1 + ((⟨4, ![1, 16, 1, 1]⟩ : Shape).rowMajor.symm n 1).val - 15 < 16
          rw [w1]; omega
        | ⟨2, _⟩ =>
          show 0 ≤ i.val * 1 + ((⟨4, ![1, 16, 1, 1]⟩ : Shape).rowMajor.symm n 2).val ∧ i.val * 1 + ((⟨4, ![1, 16, 1, 1]⟩ : Shape).rowMajor.symm n 2).val - 0 < 512
          rw [w2]; omega
        | ⟨3, _⟩ =>
          show 0 ≤ j.val * 1 + ((⟨4, ![1, 16, 1, 1]⟩ : Shape).rowMajor.symm n 3).val ∧ j.val * 1 + ((⟨4, ![1, 16, 1, 1]⟩ : Shape).rowMajor.symm n 3).val - 0 < 512
          rw [w3]; omega]
  · rw [zero_add]
    refine congrArg _ ?_
    have e : ((List.finRange (⟨4, ![1, 16, 1, 1]⟩ : Shape).numel).map fun k => if 15 ≤ c.val + k.val then f (c.val + k.val - 15) else 0).sum
        = ∑ k : Fin 16, if 15 ≤ c.val + k.val then f (c.val + k.val - 15) else 0 := (Fin.sum_univ_def (n := 16) _).symm
    refine e.trans ?_
    rw [← Finset.sum_range (fun w => if 15 ≤ c.val + w then f (c.val + w - 15) else 0), window_sum f c.val c.isLt, Finset.sum_range]
    rfl

/-- The gradient of layer 1 in its place, -/
theorem pad_high (y : FVec Ideal S16x1x512x512 .f32) (v : FVec Ideal S_ .f32) (c : Fin 16) (p : Fin 2) (i j : Fin 512) :
    pad S16x2x512x512 ![0, 1, 0, 0] ![0, 0, 0, 0] ![0, 0, 0, 0] y v pads_S16x1x512x512_S16x2x512x512_000_100_000_000 h_S_ (ix4 c p i j)
      = if p = 1 then y (ix4 c 0 i j) else v (Shape.Idx.first h_S_) := by
  have hp := p.isLt
  split
  · next e =>
    subst e
    exact pad_apply_of_inside _ _ _ _ _ _ _ _ (ix4 c 0 i j) fun a => match a with
      | ⟨0, _⟩ => by show c.val = 0 + c.val * (0 + 1); omega
      | ⟨1, _⟩ => rfl
      | ⟨2, _⟩ => by show i.val = 0 + i.val * (0 + 1); omega
      | ⟨3, _⟩ => by show j.val = 0 + j.val * (0 + 1); omega
  · next e =>
    exact pad_apply_of_not_inside _ _ _ _ _ _ _ _ (1 : Fin 4) fun hh => e (Fin.ext (by have := hh.1; change 1 ≤ p.val at this; show p.val = 1; omega))

/-- and that of layer 0. -/
theorem pad_low (y : FVec Ideal S16x1x512x512 .f32) (v : FVec Ideal S_ .f32) (c : Fin 16) (p : Fin 2) (i j : Fin 512) :
    pad S16x2x512x512 ![0, 0, 0, 0] ![0, 1, 0, 0] ![0, 0, 0, 0] y v pads_S16x1x512x512_S16x2x512x512_000_010_000_000 h_S_ (ix4 c p i j)
      = if p = 0 then y (ix4 c 0 i j) else v (Shape.Idx.first h_S_) := by
  have hp := p.isLt
  split
  · next e =>
    subst e
    exact pad_apply_of_inside _ _ _ _ _ _ _ _ (ix4 c 0 i j) fun a => match a with
      | ⟨0, _⟩ => by show c.val = 0 + c.val * (0 + 1); omega
      | ⟨1, _⟩ => rfl
      | ⟨2, _⟩ => by show i.val = 0 + i.val * (0 + 1); omega
      | ⟨3, _⟩ => by show j.val = 0 + j.val * (0 + 1); omega
  · next e =>
    exact pad_apply_of_not_inside _ _ _ _ _ _ _ _ (1 : Fin 4) fun hh => e (Fin.ext (by
      have := hh.2.2; change (p.val - 0) / (0 + 1) < 1 at this; show p.val = 0; omega))

/-- Chunks before layers, exchanged. -/
theorem swap2_apply (y : FVec Ideal S16x2x512x512 .f32) (p : Fin 2) (c : Fin 16) (i j : Fin 512) :
    transpose S2x16x512x512 [1, 0, 2, 3] y transposes_S16x2x512x512_S2x16x512x512_1_0_2_3 (ix4 p c i j) = y (ix4 c p i j) := by
  pointwise

/-- The two axes of a matrix exchanged, chunk by chunk. -/
theorem flip_apply (y : FVec Ideal S16x512x512 .f32) (c : Fin 16) (i j : Fin 512) :
    transpose S16x512x512 [0, 2, 1] y transposes_S16x512x512_S16x512x512_0_2_1 (ix3 c i j) = y (ix3 c j i) := by
  pointwise

/-- A unit axis put in. -/
theorem unit_apply (y : FVec Ideal S16x512x512 .f32) (c : Fin 16) (i j : Fin 512) :
    broadcastInDim S16x1x512x512 ![0, 2, 3] bcast_S16x512x512_S16x1x512x512_0_2_3 y (ix4 c 0 i j) = y (ix3 c i j) := by
  pointwise

/-- The sum over the chunks. -/
theorem sum_chunks (y : FVec Ideal S2x16x512x512 .f32) (v : FVec Ideal S_ .f32) (p : Fin 2) (i j : Fin 512) :
    Host.reduceAdd (F := Ideal) y v reducesTo_S2x16x512x512_S2x512x512_d1 h_S_ (ix3 p i j) = v (Shape.Idx.first h_S_) + ∑ c : Fin 16, y (ix4 p c i j) := by
  pointwise

/-- The sum over a chunk's tokens. -/
theorem sum_tokens (y : FVec Ideal S4x16x128x1 .f32) (v : FVec Ideal S_ .f32) (b : Fin 4) (c : Fin 16) :
    Host.reduceAdd (F := Ideal) y v reducesTo_S4x16x128x1_S4x16x1_d2 h_S_ (ix3 b c 0) = v (Shape.Idx.first h_S_) + ∑ l : Fin 128, y (ix4 b c l 0) := by
  pointwise

/-- The sum over the batch. -/
theorem sum_batch (y : FVec Ideal S4x16 .f32) (v : FVec Ideal S_ .f32) (c : Fin 16) :
    Host.reduceAdd (F := Ideal) y v reducesTo_S4x16_S16_d0 h_S_ (ix1 c) = v (Shape.Idx.first h_S_) + ∑ b : Fin 4, y (ix2 b c) := by
  pointwise

/-- The chunks' numbers. -/
theorem iota_apply (c : Fin 16) : sitofp (F := Ideal) .f32 (iotaInDim S16 32 0) (ix1 c) = (((c.val : ℕ) : ℝ) : EReal) := by
  pointwise
  fin_cases c <;> rfl

/-- The mean of gradients less their running sums, by chunk. -/
theorem mean_sum (u k : Fin 16 → ℝ) :
    (∑ c, (u c + -∑ d, if d ≤ c then u d * k d else 0)) / 16 = ∑ c : Fin 16, u c * (1 / 16 - (16 - (c.val : ℝ)) / 16 * k c) := by
  have hcard : ∀ d : Fin 16, ((Finset.univ.filter fun c => d ≤ c).card) = 16 - d.val := by decide
  have hs : ∑ c : Fin 16, ∑ d : Fin 16, (if d ≤ c then u d * k d else 0) = ∑ d : Fin 16, (16 - (d.val : ℝ)) * (u d * k d) := by
    rw [Finset.sum_comm]
    refine Finset.sum_congr rfl fun d _ => ?_
    rw [← Finset.sum_filter, Finset.sum_const, hcard, nsmul_eq_mul, Nat.cast_sub d.isLt.le]
    norm_num
  rw [Finset.sum_add_distrib, Finset.sum_neg_distrib, hs, ← sub_eq_add_neg, ← Finset.sum_sub_distrib, Finset.sum_div]
  exact Finset.sum_congr rfl fun d _ => by ring

end Cert.MemoryRefIdeal.Spec

end
-- ==== Proof.MemRefValue.lean ====
/- The neural-memory reference read at an index: the update of the weights and what the updated memory retrieves. -/
module

public import proofs.«01_k».proof.Proof.MemRefLayers
public import proofs.«01_k».proof.Proof.MemRefOps

@[expose] public section

set_option maxRecDepth 16384

noncomputable section

namespace Cert.MemoryRefIdeal.Spec

open Cert.MemoryRefIdeal Cert.MemoryRefIdeal.Gen Cert.MemoryRefIdeal.Read Idealize.ShloMosaic Idealize.ShloMosaic.TcCoe Cert.MemSpec Cert.Reals

variable {P : Par} {x0 : FVec Ideal ⟨3, ![4, 1984, 512]⟩ .f32} {x1 : FVec Ideal ⟨2, ![64, 512]⟩ .f32} {x2 : FVec Ideal ⟨3, ![2, 512, 512]⟩ .f32}
  {x3 : FVec Ideal ⟨2, ![512, 512]⟩ .f32} {x4 : FVec Ideal ⟨1, ![512]⟩ .f32} {x5 : FVec Ideal ⟨2, ![512, 512]⟩ .f32} {x6 : FVec Ideal ⟨1, ![512]⟩ .f32}
  {x7 : FVec Ideal ⟨2, ![512, 512]⟩ .f32} {x8 : FVec Ideal ⟨1, ![512]⟩ .f32} {x9 : FVec Ideal ⟨2, ![512, 1]⟩ .f32} {x10 : FVec Ideal ⟨1, ![1]⟩ .f32}
  {x11 x12 x13 : FVec Ideal ⟨2, ![512, 512]⟩ .f32} (h : Are P x0 x1 x2 x3 x4 x5 x6 x7 x8 x9 x10 x11 x12 x13)

/-- The number zero, read off its word. -/
theorem zero_first (v : FVec Ideal S_ .f32) (hv : v = constant S_ .f32 0x00000000#32) : v (Shape.Idx.first h_S_) = ((0 : ℝ) : EReal) := by
  subst hv
  exact zero_word

include h in
/-- The gradient of layer 1, by chunk. -/
theorem u1_apply (c : Fin 16) (i j : Fin 512) : val_main_v66 (F := Ideal) x0 x1 x2 x5 x6 x7 x8 x9 x10 (ix4 c 0 i j) = ((P.u 1 c i j : ℝ) : EReal) := by
  have hd := d1_apply h
  have hz := z1_apply h
  unfold val_main_v66 val_main_v63 val_main_v62
  rw [unit_apply, flip_apply]
  refine (dot2_apply _ _ c j i).trans ?_
  simp only [hd, hz, coe_dot, coe_sum]
  refine congrArg _ (Finset.sum_congr rfl fun b _ => Finset.sum_congr rfl fun l _ => ?_)
  rw [grad, if_neg (by decide), wgt]
  ring

include h in
/-- The gradient of layer 0, by chunk. -/
theorem u0_apply (c : Fin 16) (i j : Fin 512) : val_main_v71 (F := Ideal) x0 x1 x2 x5 x6 x7 x8 x9 x10 (ix4 c 0 i j) = ((P.u 0 c i j : ℝ) : EReal) := by
  have hd := d0_apply h
  have hz := keys_apply h
  unfold val_main_v71 val_main_v70 val_main_v69
  rw [unit_apply, flip_apply]
  refine (dot2_apply _ _ c j i).trans ?_
  simp only [hd, hz, coe_dot, coe_sum]
  refine congrArg _ (Finset.sum_congr rfl fun b _ => Finset.sum_congr rfl fun l _ => ?_)
  rw [grad, if_pos rfl, wgt]
  ring

include h in
/-- The gradients, by layer and chunk. -/
theorem u_apply (p : Fin 2) (c : Fin 16) (i j : Fin 512) : val_main_v74 (F := Ideal) x0 x1 x2 x5 x6 x7 x8 x9 x10 (ix4 p c i j) = ((P.u p c i j : ℝ) : EReal) := by
  have h0 := u0_apply h c i j
  have h1 := u1_apply h c i j
  unfold val_main_v74
  rw [swap2_apply, val_main_v73_apply]
  unfold val_main_v67 val_main_v72
  rw [pad_high, pad_low, h0, h1, zero_first (val_main_cst_8 (F := Ideal)) rfl, zero_first (val_main_cst_9 (F := Ideal)) rfl]
  obtain rfl | rfl : p = 0 ∨ p = 1 := by have := p.isLt; rcases p with ⟨_ | _ | n, hp⟩ <;> [exact .inl rfl; exact .inr rfl; omega]
  · rw [if_neg (by decide), if_pos rfl, add_ideal, zero_add]
  · rw [if_pos rfl, if_neg (by decide), add_ideal, add_zero]

/-- The momentum of a chunk. -/
theorem pw_apply (c : Fin 16) : val_main_v83 (F := Ideal) (ix1 c) = ((Par.pw c : ℝ) : EReal) := by
  have hi := iota_apply c
  rw [val_main_v83_apply, val_main_v82_apply, val_main_v81_apply, val_main_v80_apply, val_main_cst_12_apply, val_main_cst_13_apply]
  unfold val_main_v79
  rw [hi, ofBits_ideal, ofBits_ideal, one_word, mom_word, add_ideal, add_comm]
  rfl

include h in
/-- A chunk's mean rate in a row of the batch. -/
theorem meanrate_apply (b : Fin 4) (c : Fin 16) :
    val_main_v78 (F := Ideal) x0 x1 x9 x10 (ix2 b c) = (((∑ l, P.rate b (Par.at' c l)) / 128 : ℝ) : EReal) := by
  have hr := rates_apply h
  have e : val_main_v78 (F := Ideal) x0 x1 x9 x10 (ix2 b c) = val_main_v77 (F := Ideal) x0 x1 x9 x10 (ix3 b c 0) := by
    unfold val_main_v78
    generalize val_main_v77 (F := Ideal) x0 x1 x9 x10 = y
    pointwise
  rw [e, val_main_v77_apply, val_main_v76_apply, val_main_cst_11_apply]
  unfold val_main_v75
  rw [sum_tokens, zero_first (val_main_cst_10 (F := Ideal)) rfl, ofBits_ideal, w128_word]
  simp only [hr]
  rw [coe_sum, ← EReal.coe_add, zero_add, div_ideal _ _ (by norm_num)]

include h in
/-- A chunk's weight in the running sum. -/
theorem coef_apply (c : Fin 16) : val_main_v89 (F := Ideal) x0 x1 x9 x10 (ix1 c) = ((P.coef c : ℝ) : EReal) := by
  have hm := meanrate_apply h
  have hp := pw_apply c
  have e : ∀ b : Fin 4, val_main_v86 (F := Ideal) x0 x1 x9 x10 (ix2 b c) = (((∑ l, P.rate b (Par.at' c l)) / 128 * Par.pw c : ℝ) : EReal) := fun b => by
    have e' : val_main_v85 (F := Ideal) (ix2 b c) = val_main_v83 (F := Ideal) (ix1 c) := by
      unfold val_main_v85 val_main_v84
      generalize val_main_v83 (F := Ideal) = y
      pointwise
    rw [val_main_v86_apply, e', hm, hp, mul_ideal]
  rw [val_main_v89_apply, val_main_v88_apply, val_main_cst_15_apply]
  unfold val_main_v87
  rw [sum_batch, zero_first (val_main_cst_14 (F := Ideal)) rfl, ofBits_ideal, four_word]
  simp only [e]
  rw [coe_sum, ← EReal.coe_add, zero_add, div_ideal _ _ (by norm_num), ← Finset.sum_mul, ← Finset.sum_div, Par.coef]
  exact congrArg _ (by ring)

include h in
/-- The weighted gradients. -/
theorem wu_apply (p : Fin 2) (c : Fin 16) (i j : Fin 512) :
    val_main_v92 (F := Ideal) x0 x1 x2 x5 x6 x7 x8 x9 x10 (ix4 p c i j) = ((P.u p c i j * P.coef c : ℝ) : EReal) := by
  have hu := u_apply h p c i j
  have hc := coef_apply h c
  have e : val_main_v91 (F := Ideal) x0 x1 x9 x10 (ix4 p c i j) = val_main_v89 (F := Ideal) x0 x1 x9 x10 (ix1 c) := by
    unfold val_main_v91 val_main_v90
    generalize val_main_v89 (F := Ideal) x0 x1 x9 x10 = y
    pointwise
  rw [val_main_v92_apply, hu, e, hc, mul_ideal]

include h in
/-- Their running sum. -/
theorem run_apply (p : Fin 2) (c : Fin 16) (i j : Fin 512) :
    val_main_v93 (F := Ideal) x0 x1 x2 x5 x6 x7 x8 x9 x10 (ix4 p c i j) = ((∑ d : Fin 16, (if d ≤ c then P.u p d i j * P.coef d else 0) : ℝ) : EReal) := by
  have hw := wu_apply h p
  unfold val_main_v93
  generalize val_main_v92 (F := Ideal) x0 x1 x2 x5 x6 x7 x8 x9 x10 = y at hw ⊢
  refine (show _ = _ from ?_).trans ((cumsum_apply y (fun k => if hk : k < 16 then P.u p ⟨k, hk⟩ i j * P.coef ⟨k, hk⟩ else 0) p i j
    (fun k => by rw [hw, dif_pos k.isLt]) c).trans ?_)
  · rw [← zero_word]
    rfl
  · exact congrArg _ (Finset.sum_congr rfl fun d _ => by rw [dif_pos d.isLt])

include h in
/-- The step's direction. -/
theorem g_apply (p : Fin 2) (i j : Fin 512) : val_main_v98 (F := Ideal) x0 x1 x2 x5 x6 x7 x8 x9 x10 (ix3 p i j) = ((P.g p i j : ℝ) : EReal) := by
  have hu := u_apply h p
  have hr := run_apply h p
  rw [val_main_v98_apply, val_main_v97_apply, val_main_cst_17_apply]
  unfold val_main_v96
  rw [sum_chunks, zero_first (val_main_cst_16 (F := Ideal)) rfl, ofBits_ideal, w16_word]
  simp only [val_main_v95_apply, val_main_v94_apply, hu, hr, neg_ideal, add_ideal]
  rw [coe_sum, ← EReal.coe_add, zero_add, div_ideal _ _ (by norm_num), mean_sum]
  rfl

include h in
/-- The weights after the update. -/
theorem new_apply (p : Fin 2) (i j : Fin 512) : val_main_v108 (F := Ideal) x0 x1 x2 x5 x6 x7 x8 x9 x10 (ix3 p i j) = ((P.new p i j : ℝ) : EReal) := by
  have hg := g_apply h p i j
  have hw := h.h2 p i j
  rw [val_main_v108_apply, val_main_v107_apply, val_main_v106_apply, val_main_v105_apply, val_main_cst_20_apply, val_main_v104_apply, val_main_v103_apply,
    val_main_v102_apply, val_main_cst_19_apply, val_main_v101_apply, val_main_v100_apply, val_main_v99_apply, val_main_cst_18_apply, hg]
  rw [show x2 (ix3 p i j) = _ from hw, ofBits_ideal, ofBits_ideal, ofBits_ideal, step_word, eps_word, decay_word, mul_ideal, mul_ideal, abs_ideal, add_ideal,
    div_ideal _ _ (by have := eps_pos; have := abs_nonneg (P.g p i j); linarith), add_ideal, sub_ideal]
  rfl

include h in
/-- The first layer of the retrieval: its weights, -/
theorem n0_apply (i j : Fin 512) : val_main_v110 (F := Ideal) x0 x1 x2 x5 x6 x7 x8 x9 x10 (ix2 i j) = ((P.new 0 i j : ℝ) : EReal) := by
  have hn := new_apply h
  unfold val_main_v110 val_main_v109
  generalize val_main_v108 (F := Ideal) x0 x1 x2 x5 x6 x7 x8 x9 x10 = y at hn ⊢
  pointwise
  exact hn _ _ _

include h in
theorem n1_apply (i j : Fin 512) : val_main_v115 (F := Ideal) x0 x1 x2 x5 x6 x7 x8 x9 x10 (ix2 i j) = ((P.new 1 i j : ℝ) : EReal) := by
  have hn := new_apply h
  unfold val_main_v115 val_main_v114
  generalize val_main_v108 (F := Ideal) x0 x1 x2 x5 x6 x7 x8 x9 x10 = y at hn ⊢
  pointwise
  exact hn _ _ _

include h in
/-- product, -/
theorem r0_apply (b : Fin 4) (t : Fin 2048) (j : Fin 512) :
    val_main_v111 (F := Ideal) x0 x1 x2 x3 x4 x5 x6 x7 x8 x9 x10 (ix3 b t j) = ((lin (P.new 0) (P.qry b t) j : ℝ) : EReal) := by
  have hq := qry_apply h
  have hn := n0_apply h
  unfold val_main_v111
  generalize val_main_v29 (F := Ideal) x0 x1 x3 x4 = y at hq ⊢
  generalize val_main_v110 (F := Ideal) x0 x1 x2 x5 x6 x7 x8 x9 x10 = w at hn ⊢
  pointwise
  simp only [hq, hn]
  exact lin_real _ _ _

include h in
/-- and output. -/
theorem l0_apply (b : Fin 4) (t : Fin 2048) (j : Fin 512) :
    val_main_v113 (F := Ideal) x0 x1 x2 x3 x4 x5 x6 x7 x8 x9 x10 (ix3 b t j) = ((layer (P.new 0) (P.qry b t) j : ℝ) : EReal) := by
  have hq := qry_apply h b t j
  have hr := r0_apply h b t j
  rw [val_main_v113_apply, val_main_v112_apply, val_main_call5_v5_apply, val_main_call5_v4_apply, val_main_call5_v3_apply, val_main_call5_v2_apply,
    val_main_call5_v1_apply, val_main_call5_v0_apply, val_main_call5_cst_apply, val_main_call5_cst_0_apply, hr, hq, recip_real, mul_ideal, add_ideal]
  rfl

include h in
/-- The second layer of the retrieval: its product, -/
theorem r1_apply (b : Fin 4) (t : Fin 2048) (j : Fin 512) :
    val_main_v116 (F := Ideal) x0 x1 x2 x3 x4 x5 x6 x7 x8 x9 x10 (ix3 b t j) = ((lin (P.new 1) (layer (P.new 0) (P.qry b t)) j : ℝ) : EReal) := by
  have hq := l0_apply h
  have hn := n1_apply h
  unfold val_main_v116
  generalize val_main_v113 (F := Ideal) x0 x1 x2 x3 x4 x5 x6 x7 x8 x9 x10 = y at hq ⊢
  generalize val_main_v115 (F := Ideal) x0 x1 x2 x5 x6 x7 x8 x9 x10 = w at hn ⊢
  pointwise
  simp only [hq, hn]
  exact lin_real _ _ _

include h in
/-- and output. -/
theorem ret_apply (b : Fin 4) (t : Fin 2048) (j : Fin 512) : val_main_v118 (F := Ideal) x0 x1 x2 x3 x4 x5 x6 x7 x8 x9 x10 (ix3 b t j) = ((P.ret b t j : ℝ) : EReal) := by
  have hq := l0_apply h b t j
  have hr := r1_apply h b t j
  rw [val_main_v118_apply, val_main_v117_apply, val_main_call6_v5_apply, val_main_call6_v4_apply, val_main_call6_v3_apply, val_main_call6_v2_apply,
    val_main_call6_v1_apply, val_main_call6_v0_apply, val_main_call6_cst_apply, val_main_call6_cst_0_apply, hr, hq, recip_real, mul_ideal, add_ideal]
  rfl

include h in
/-- The three projections. -/
theorem projq_apply (b : Fin 4) (t : Fin 2048) (j : Fin 512) :
    val_main_v121 (F := Ideal) x0 x1 x2 x3 x4 x5 x6 x7 x8 x9 x10 x11 (ix3 b t j) = ((lin P.Aq (P.ret b t) j / 8 : ℝ) : EReal) := by
  have hr := ret_apply h
  have hw := h.h11
  have e : val_main_v119 (F := Ideal) x0 x1 x2 x3 x4 x5 x6 x7 x8 x9 x10 x11 (ix3 b t j) = ((lin P.Aq (P.ret b t) j : ℝ) : EReal) := by
    unfold val_main_v119
    generalize val_main_v118 (F := Ideal) x0 x1 x2 x3 x4 x5 x6 x7 x8 x9 x10 = y at hr ⊢
    pointwise
    simp only [hr, hw]
    exact lin_real _ _ _
  rw [val_main_v121_apply, e, val_main_v120_apply, val_main_cst_21_apply, ofBits_ideal, eight_word, div_ideal _ _ (by norm_num)]

include h in
theorem projk_apply (b : Fin 4) (t : Fin 2048) (j : Fin 512) :
    val_main_v122 (F := Ideal) x0 x1 x2 x3 x4 x5 x6 x7 x8 x9 x10 x12 (ix3 b t j) = ((lin P.Ak (P.ret b t) j : ℝ) : EReal) := by
  have hr := ret_apply h
  have hw := h.h12
  unfold val_main_v122
  generalize val_main_v118 (F := Ideal) x0 x1 x2 x3 x4 x5 x6 x7 x8 x9 x10 = y at hr ⊢
  pointwise
  simp only [hr, hw]
  exact lin_real _ _ _

include h in
theorem projv_apply (b : Fin 4) (t : Fin 2048) (j : Fin 512) :
    val_main_v123 (F := Ideal) x0 x1 x2 x3 x4 x5 x6 x7 x8 x9 x10 x13 (ix3 b t j) = ((lin P.Av (P.ret b t) j : ℝ) : EReal) := by
  have hr := ret_apply h
  have hw := h.h13
  unfold val_main_v123
  generalize val_main_v118 (F := Ideal) x0 x1 x2 x3 x4 x5 x6 x7 x8 x9 x10 = y at hr ⊢
  pointwise
  simp only [hr, hw]
  exact lin_real _ _ _

include h in
/-- The reference's result. -/
theorem out_apply (b : Fin 4) (s : Fin 8) (q : Fin 256) (j : Fin 1536) :
    val_main_v126 (F := Ideal) x0 x1 x2 x3 x4 x5 x6 x7 x8 x9 x10 x11 x12 x13 (ix4 b s q j) = ((P.out b ⟨s.val * 256 + q.val, by omega⟩ j : ℝ) : EReal) := by
  have ha := projq_apply h
  have hk := projk_apply h
  have hv := projv_apply h
  rw [val_main_v126_apply]
  have e : val_main_v125 (F := Ideal) x0 x1 x2 x3 x4 x5 x6 x7 x8 x9 x10 x11 x12 x13 (ix4 b s q j) = val_main_v124 (F := Ideal) x0 x1 x2 x3 x4 x5 x6 x7 x8 x9 x10 x11 x12 x13 (ix3 b ⟨s.val * 256 + q.val, by omega⟩ j) := by
    unfold val_main_v125
    generalize val_main_v124 (F := Ideal) x0 x1 x2 x3 x4 x5 x6 x7 x8 x9 x10 x11 x12 x13 = y
    pointwise
  rw [e]
  unfold val_main_v124
  generalize val_main_v121 (F := Ideal) x0 x1 x2 x3 x4 x5 x6 x7 x8 x9 x10 x11 = y1 at ha ⊢
  generalize val_main_v122 (F := Ideal) x0 x1 x2 x3 x4 x5 x6 x7 x8 x9 x10 x12 = y2 at hk ⊢
  generalize val_main_v123 (F := Ideal) x0 x1 x2 x3 x4 x5 x6 x7 x8 x9 x10 x13 = y3 at hv ⊢
  unfold Par.out
  pointwise
  split
  · exact ha _ _ _
  · split
    · next h2 =>
      rw [dif_pos (by omega)]
      exact hk _ _ _
    · next h2 =>
      rw [dif_neg (by omega)]
      exact (hv _ _ _).trans (congrArg (fun k : Fin 512 => ((lin P.Av (P.ret b _) k : ℝ) : EReal)) (Fin.ext (by show j.val - 512 - 512 = j.val - 1024; omega)))

end Cert.MemoryRefIdeal.Spec

end
-- ==== Proof.MemoryI.Step.lean ====
module

public import proofs.«01_k».proof.Proof.Gen.MemoryIdeal.Frame
public import proofs.«01_k».proof.Proof.Gen.MemoryIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.WholeRead
public import Idealize.ShloMosaic.Lib.WritesUnit

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point: the accumulators are zeroed there. -/
abbrev first (i : grid0.Coords) : Prop := (Scalar.cmpi .ne (Scalar.extui (Scalar.cmpi .eq (BitVec.ofNat 32 (i 0).val) 0#32)) 0#32) = 1#1
/-- A point of the first half: its chunks' gradients are added. -/
abbrev early (i : grid0.Coords) : Prop := k0_cond2 i = 1#1
/-- The last point of the first half: the new weights are made there. -/
abbrev turn (i : grid0.Coords) : Prop := (Scalar.cmpi .ne (Scalar.extui (Scalar.cmpi .eq (BitVec.ofNat 32 (i 0).val) 7#32)) 0#32) = 1#1
/-- A point of the second half: an output block is stored. -/
abbrev late (i : grid0.Coords) : Prop := k0_cond4 i = 1#1

/-! ## Whole loads and whole stores -/

theorem z2 : (![0, 0] : Fin 2 → ℕ) = fun _ => 0 := by decide
theorem z4 : (![0, 0, 0, 0] : Fin 4 → ℕ) = fun _ => 0 := by decide

section
variable {Val : EltTy → Type} [∀ e, Nonempty (Val e)] {S : Shape} {e : EltTy} {κ : Kind} {sp : Space}

/-- A memref whose last store was of the whole of it reads what that store wrote. -/
theorem read_last {sg : RefSig} {off : Fin S.rank → ℕ} (h : off = fun _ => 0) (inb : ∀ a, off a + S.size a ≤ S.size a)
    (v : View sg κ sp S e) (f : v.ty.Contents Val) (w : S.Idx → Val e) (L : List (View.Piece Val S e)) :
    v.read Val (v.writes Val f ((⟨Rect.unit off S.size inb, w⟩ : View.Piece Val S e) :: L)) = w := by
  funext y
  exact View.read_writes_cons_unit_of_mem v f inb w L y y h (by intro a; simp)

/-- A whole load after such a store reads what the store wrote. -/
theorem readCov_last {sg : RefSig} {off : Fin S.rank → ℕ} (h : off = fun _ => 0) (inb : ∀ a, off a + S.size a ≤ S.size a)
    (v : View sg κ sp S e) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- A whole load of a whole memref reads its contents. -/
theorem load_whole {sg : RefSig} {m : Memref sg κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  funext y
  rw [hm.readAt_unread]
  exact congrFun (View.ld_unit_zero h inb X) y
end

/-! ## What a point computes -/

/-- The coefficient of the chunk `2·step + r`, out of the table. -/
def coefAt (i : grid0.Coords) (h : early i) (r : Fin 2) (x0 : Vec F S16 .f32) : Elt F .f32 :=
  x0 ((Rect.unit (s := S16) (k0_off1 i (BitVec.ofNat 32 r.val)) S1.size (k0_off1_inb i h r)).toLoadRect.idx (Shape.Idx.first (numel1_S1.symm ▸ Nat.one_pos)))

/-- The gradient of the first layer's weights over both chunks of the point, on the accumulator. -/
def next0 (i : grid0.Coords) (h : early i) (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (acc : Vec F S512x512 .f32) : Vec F S512x512 .f32 :=
  k0_pay39
    (k0_pay17 (k0_pay4 (k0_pay36 i x1 x2 x3 x4 x5) x6 x7) (k0_pay5 (k0_pay36 i x1 x2 x3 x4 x5) x6 x7) (k0_pay6 (k0_pay36 i x1 x2 x3 x4 x5) x6 x7 (coefAt i h 0 x0)) (k0_pay8 (k0_pay36 i x1 x2 x3 x4 x5) x6 x7 x8) (k0_pay9 (k0_pay36 i x1 x2 x3 x4 x5) x6 x7 x8) (k0_pay10 (k0_pay36 i x1 x2 x3 x4 x5) x6 x7 x8) x9 x10)
    (k0_pay33 (k0_pay19 (k0_pay2 (k0_pay36 i x1 x2 x3 x4 x5)) x6 x7) (k0_pay20 (k0_pay2 (k0_pay36 i x1 x2 x3 x4 x5)) x6 x7) (k0_pay21 (k0_pay2 (k0_pay36 i x1 x2 x3 x4 x5)) x6 x7) (coefAt i h 1 x0) (k0_pay22 (k0_pay2 (k0_pay36 i x1 x2 x3 x4 x5)) x6 x7) x8 x9 x10)
    acc

/-- The gradient of the second layer's weights over both chunks of the point, on the accumulator. -/
def next1 (i : grid0.Coords) (h : early i) (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (acc : Vec F S512x512 .f32) : Vec F S512x512 .f32 :=
  k0_pay40
    (k0_pay16 (k0_pay5 (k0_pay36 i x1 x2 x3 x4 x5) x6 x7) (k0_pay6 (k0_pay36 i x1 x2 x3 x4 x5) x6 x7 (coefAt i h 0 x0)) (k0_pay10 (k0_pay36 i x1 x2 x3 x4 x5) x6 x7 x8) x9)
    (k0_pay32 (k0_pay19 (k0_pay2 (k0_pay36 i x1 x2 x3 x4 x5)) x6 x7) (k0_pay20 (k0_pay2 (k0_pay36 i x1 x2 x3 x4 x5)) x6 x7) (k0_pay21 (k0_pay2 (k0_pay36 i x1 x2 x3 x4 x5)) x6 x7) (coefAt i h 1 x0) (k0_pay22 (k0_pay2 (k0_pay36 i x1 x2 x3 x4 x5)) x6 x7) x8 x9)
    acc

/-- The output block of a point, from the new weights `n0` and `n1`. -/
def block (i : grid0.Coords) (x1 : Vec F S64x512 .f32) (x2 : Vec F S4x1x64x512 .f32) (x3 : Vec F S4x1x64x512 .f32) (x4 : Vec F S4x1x64x512 .f32) (x5 : Vec F S4x1x64x512 .f32) (x11 : Vec F S512x512 .f32) (x12 : Vec F S1x512 .f32) (x13 : Vec F S512x1536 .f32) (n0 n1 : Vec F S512x512 .f32) : Vec F S4x1x256x1536 .bf16 :=
  k0_pay1 (k0_pay36 i x1 x2 x3 x4 x5) x11 x12 n0 n1 x13

/-- The input windows' buffers at their contents. -/
def Ins (c : Dev nD) (arg1 : Memref sig .tc .smem S16 .f32) (arg2 : Memref sig .tc .vmem S64x512 .f32) (arg3 : Memref sig .tc .vmem S4x1x64x512 .f32) (arg4 : Memref sig .tc .vmem S4x1x64x512 .f32) (arg5 : Memref sig .tc .vmem S4x1x64x512 .f32) (arg6 : Memref sig .tc .vmem S4x1x64x512 .f32) (arg7 : Memref sig .tc .vmem S512x1152 .f32) (arg8 : Memref sig .tc .vmem S1x1152 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S1x512 .f32) (arg14 : Memref sig .tc .vmem S512x1536 .f32)
    (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (x11 : Vec F S512x512 .f32) (x12 : Vec F S1x512 .f32) (x13 : Vec F S512x1536 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13)

end Cert.MemoryIdeal.Run
-- ==== Proof.MemoryI.Layer.lean ====
/- The neural-memory kernel's two layers and their gradients over a chunk's rows, read at an index. -/
module

public import proofs.«01_k».proof.Proof.MemSpec
public import proofs.«01_k».proof.Proof.Gen.MemoryIdeal.Skeleton
public import proofs.«01_k».proof.Proof.MemoryI.Step

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

/-- A product of two matrices with the accumulator zero. -/
theorem mm_real (A : FVec Ideal S512x512 .f32) (B : FVec Ideal S512x512 .f32) (a b : Fin 512 → Fin 512 → ℝ) (hA : ∀ r d, A (ix2 r d) = ((a r d : ℝ) : EReal))
    (hB : ∀ d j, B (ix2 d j) = ((b d j : ℝ) : EReal)) (r j : Fin 512) :
    matmul (F := Ideal) dot_S512x512_S512x512_S512x512_1_0_0_1_n_n none A (shapeCast S512x512 B shapeCasts_S512x512_S512x512) (constant S512x512 .f32 0x00000000#32) (ix2 r j)
      = ((lin b (a r) j : ℝ) : EReal) := by
  pointwise
  simp only [hA, hB]
  rw [lin_real]

/-- A product of two matrices over their rows with the accumulator zero. -/
theorem mt_real (A B : FVec Ideal S512x512 .f32) (a b : Fin 512 → Fin 512 → ℝ) (hA : ∀ r d, A (ix2 r d) = ((a r d : ℝ) : EReal))
    (hB : ∀ d j, B (ix2 d j) = ((b d j : ℝ) : EReal)) (i j : Fin 512) :
    matmul (F := Ideal) dot_S512x512_S512x512_S512x512_0_0_1_1_n_n none A B (constant S512x512 .f32 0x00000000#32) (ix2 i j)
      = ((∑ r, a r i * b r j : ℝ) : EReal) := by
  pointwise
  simp only [hA, hB]
  rw [coe_dot]

/-- A column along the rows of a matrix. -/
theorem col_apply (w : FVec Ideal S512x1 .f32) (r j : Fin 512) : broadcastTo S512x512 w broadcasts_S512x1_S512x512 (ix2 r j) = w (ix2 r 0) := by
  pointwise

section
variable {K A B T V : FVec Ideal S512x512 .f32} {w : FVec Ideal S512x1 .f32} {k v a b t : Fin 512 → Fin 512 → ℝ} {wr : Fin 512 → ℝ}

/-- The first layer's product, logistic, activation and output. -/
theorem pay23_apply (hK : ∀ r d, K (ix2 r d) = ((k r d : ℝ) : EReal)) (hA : ∀ d j, A (ix2 d j) = ((a d j : ℝ) : EReal)) (r j : Fin 512) :
    k0_pay23 (F := Ideal) K A (ix2 r j) = ((lin a (k r) j : ℝ) : EReal) := mm_real K A k a hK hA r j

theorem pay24_apply (hK : ∀ r d, K (ix2 r d) = ((k r d : ℝ) : EReal)) (hA : ∀ d j, A (ix2 d j) = ((a d j : ℝ) : EReal)) (r j : Fin 512) :
    k0_pay24 (F := Ideal) K A (ix2 r j) = ((sg (lin a (k r) j) : ℝ) : EReal) := by
  show FloatOps.logistic (k0_pay23 (F := Ideal) K A (ix2 r j)) = _
  rw [pay23_apply hK hA, logistic_ideal]

theorem pay25_apply (hK : ∀ r d, K (ix2 r d) = ((k r d : ℝ) : EReal)) (hA : ∀ d j, A (ix2 d j) = ((a d j : ℝ) : EReal)) (r j : Fin 512) :
    k0_pay25 (F := Ideal) K A (ix2 r j) = ((lin a (k r) j * sg (lin a (k r) j) : ℝ) : EReal) := by
  show FloatOps.mulf (k0_pay23 (F := Ideal) K A (ix2 r j)) (k0_pay24 (F := Ideal) K A (ix2 r j)) = _
  rw [pay23_apply hK hA, pay24_apply hK hA, mul_ideal]

theorem pay26_apply (hK : ∀ r d, K (ix2 r d) = ((k r d : ℝ) : EReal)) (hA : ∀ d j, A (ix2 d j) = ((a d j : ℝ) : EReal)) (r j : Fin 512) :
    k0_pay26 (F := Ideal) K A (ix2 r j) = ((layer a (k r) j : ℝ) : EReal) := by
  show FloatOps.addf (K (ix2 r j)) (k0_pay25 (F := Ideal) K A (ix2 r j)) = _
  rw [hK, pay25_apply hK hA, add_ideal]
  rfl

/-- The second layer's product, logistic and activation on the first layer's output `K`. -/
theorem pay11_apply (hK : ∀ r d, K (ix2 r d) = ((k r d : ℝ) : EReal)) (hA : ∀ d j, A (ix2 d j) = ((a d j : ℝ) : EReal)) (r j : Fin 512) :
    k0_pay11 (F := Ideal) K A (ix2 r j) = ((lin a (k r) j : ℝ) : EReal) := mm_real K A k a hK hA r j

theorem pay12_apply (hK : ∀ r d, K (ix2 r d) = ((k r d : ℝ) : EReal)) (hA : ∀ d j, A (ix2 d j) = ((a d j : ℝ) : EReal)) (r j : Fin 512) :
    k0_pay12 (F := Ideal) K A (ix2 r j) = ((sg (lin a (k r) j) : ℝ) : EReal) := by
  show FloatOps.logistic (k0_pay11 (F := Ideal) K A (ix2 r j)) = _
  rw [pay11_apply hK hA, logistic_ideal]

theorem pay13_apply (hK : ∀ r d, K (ix2 r d) = ((k r d : ℝ) : EReal)) (hA : ∀ d j, A (ix2 d j) = ((a d j : ℝ) : EReal)) (r j : Fin 512) :
    k0_pay13 (F := Ideal) K A (ix2 r j) = ((lin a (k r) j * sg (lin a (k r) j) : ℝ) : EReal) := by
  show FloatOps.mulf (k0_pay11 (F := Ideal) K A (ix2 r j)) (k0_pay12 (F := Ideal) K A (ix2 r j)) = _
  rw [pay11_apply hK hA, pay12_apply hK hA, mul_ideal]

variable (hZ : ∀ r d, K (ix2 r d) = ((layer a (k r) d : ℝ) : EReal)) (hB : ∀ d j, B (ix2 d j) = ((b d j : ℝ) : EReal))
  (hV : ∀ r d, V (ix2 r d) = ((v r d : ℝ) : EReal)) (hw : ∀ r, w (ix2 r 0) = ((wr r : ℝ) : EReal))

include hZ hB hV hw in
/-- The weighted error, -/
theorem pay14_apply (r j : Fin 512) : k0_pay14 (F := Ideal) V w K B (ix2 r j) = ((wr r * err1 a b (k r) (v r) j : ℝ) : EReal) := by
  show FloatOps.mulf (broadcastTo S512x512 w broadcasts_S512x1_S512x512 (ix2 r j)) (FloatOps.subf (FloatOps.addf (K (ix2 r j)) (k0_pay13 (F := Ideal) K B (ix2 r j))) (V (ix2 r j))) = _
  rw [col_apply, hw, hZ, pay13_apply (k := fun r => layer a (k r)) hZ hB, hV, add_ideal, sub_ideal, mul_ideal]
  rfl

include hZ hB hV hw in
/-- carried through the second layer's activation. -/
theorem pay15_apply (r j : Fin 512) : k0_pay15 (F := Ideal) V w K B (ix2 r j) = ((wr r * sl1 a b (k r) (v r) j : ℝ) : EReal) := by
  show FloatOps.mulf (k0_pay14 (F := Ideal) V w K B (ix2 r j)) (FloatOps.subf (FloatOps.addf (k0_pay12 (F := Ideal) K B (ix2 r j)) (k0_pay13 (F := Ideal) K B (ix2 r j)))
    (FloatOps.mulf (k0_pay13 (F := Ideal) K B (ix2 r j)) (k0_pay12 (F := Ideal) K B (ix2 r j)))) = _
  rw [pay14_apply hZ hB hV hw, pay12_apply (k := fun r => layer a (k r)) hZ hB, pay13_apply (k := fun r => layer a (k r)) hZ hB, add_ideal, mul_ideal, sub_ideal, mul_ideal]
  exact congrArg _ (by rw [sl1, ds]; ring)

include hZ hB hV hw in
/-- The second layer's gradient over the rows. -/
theorem pay16_apply (i j : Fin 512) : k0_pay16 (F := Ideal) V w K B (ix2 i j) = ((∑ r, layer a (k r) i * (wr r * sl1 a b (k r) (v r) j) : ℝ) : EReal) :=
  mt_real K (k0_pay15 (F := Ideal) V w K B) (fun r => layer a (k r)) (fun r j => wr r * sl1 a b (k r) (v r) j) hZ (pay15_apply hZ hB hV hw) i j

include hZ hB hV hw in
/-- The first layer's gradient over the rows. -/
theorem pay17_apply {K0 S0 H0 : FVec Ideal S512x512 .f32} (h0 : ∀ r d, K0 (ix2 r d) = ((k r d : ℝ) : EReal))
    (hS : ∀ r j, S0 (ix2 r j) = ((sg (lin a (k r) j) : ℝ) : EReal)) (hH : ∀ r j, H0 (ix2 r j) = ((lin a (k r) j * sg (lin a (k r) j) : ℝ) : EReal))
    (hT : ∀ l j, T (ix2 l j) = ((b j l : ℝ) : EReal)) (i j : Fin 512) :
    k0_pay17 (F := Ideal) K0 V w S0 H0 K B T (ix2 i j) = ((∑ r, k r i * (wr r * sl0 a b (k r) (v r) j) : ℝ) : EReal) := by
  have hm := mm_real (k0_pay15 (F := Ideal) V w K B) T _ _ (pay15_apply hZ hB hV hw) hT
  refine mt_real K0 _ k (fun r j => wr r * sl0 a b (k r) (v r) j) h0 (fun r j => ?_) i j
  show FloatOps.mulf (FloatOps.addf (k0_pay14 (F := Ideal) V w K B (ix2 r j)) (matmul (F := Ideal) dot_S512x512_S512x512_S512x512_1_0_0_1_n_n none
    (k0_pay15 (F := Ideal) V w K B) (shapeCast S512x512 T shapeCasts_S512x512_S512x512) (constant S512x512 .f32 0x00000000#32) (ix2 r j)))
    (FloatOps.subf (FloatOps.addf (S0 (ix2 r j)) (H0 (ix2 r j))) (FloatOps.mulf (H0 (ix2 r j)) (S0 (ix2 r j)))) = _
  rw [hm, pay14_apply hZ hB hV hw, hS, hH, add_ideal, add_ideal, mul_ideal, sub_ideal, mul_ideal]
  refine congrArg _ ?_
  rw [sl0, ds, err0, show lin (fun l j => b j l) (fun j => wr r * sl1 a b (k r) (v r) j) j = wr r * ∑ l, sl1 a b (k r) (v r) l * b j l by
    rw [lin, Finset.mul_sum]; exact Finset.sum_congr rfl fun l _ => by ring]
  ring
end

end Cert.MemoryIdeal.Spec

end
-- ==== Proof.MemoryI.Chunk.lean ====
/- The neural-memory kernel's projections, rates and row weights of a chunk, read at an index. -/
module

public import proofs.«01_k».proof.Proof.MemoryI.Layer
public import Mathlib.Logic.Equiv.Fin.Basic

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

/-- The batch row and the token of a chunk's row. -/
def bt (r : Fin 512) : Fin 4 := ⟨r.val / 128, by omega⟩
def lt (r : Fin 512) : Fin 128 := ⟨r.val % 128, by omega⟩
/-- The row of a point's tokens a chunk's row is. -/
def row (cc : Fin 2) (r : Fin 512) : Fin 1024 := ⟨r.val / 128 * 256 + cc.val * 128 + r.val % 128, by omega⟩

/-- A sum over a chunk's rows is the double sum over batch and token. -/
theorem sum_rows (f : Fin 4 → Fin 128 → ℝ) : ∑ r, f (bt r) (lt r) = ∑ b, ∑ l, f b l := by
  rw [← Fintype.sum_prod_type']
  exact Fintype.sum_equiv (finProdFinEquiv (m := 4) (n := 128)).symm _ _ fun r => rfl

/-- The rows of the two chunks of a point. -/
theorem slab0 (R : FVec Ideal S1024x512 .f32) (r d : Fin 512) :
    shapeCast S512x512 (shapeCast S4x128x512 (extractStridedSlice S4x1x128x512 ![0, 0, 0, 0] (shapeCast S4x2x128x512 R shapeCasts_S1024x512_S4x2x128x512)
      slices_S4x2x128x512_o0_0_0_0_S4x1x128x512) shapeCasts_S4x1x128x512_S4x128x512) shapeCasts_S4x128x512_S512x512 (ix2 r d) = R (ix2 (row 0 r) d) := by
  pointwise
  exact congrArg (fun k => R (ix2 k d)) (Fin.ext (by simp only [row]; first | rfl | omega))

theorem slab1 (R : FVec Ideal S1024x512 .f32) (r d : Fin 512) :
    shapeCast S512x512 (shapeCast S4x128x512 (extractStridedSlice S4x1x128x512 ![0, 1, 0, 0] (shapeCast S4x2x128x512 R shapeCasts_S1024x512_S4x2x128x512)
      slices_S4x2x128x512_o0_1_0_0_S4x1x128x512) shapeCasts_S4x1x128x512_S4x128x512) shapeCasts_S4x128x512_S512x512 (ix2 r d) = R (ix2 (row 1 r) d) := by
  pointwise
  exact congrArg (fun k => R (ix2 k d)) (Fin.ext (by simp only [row]; first | rfl | omega))

/-- Rows times the joined projections plus the joined biases. -/
theorem proj_real (A : FVec Ideal S512x512 .f32) (x6 : FVec Ideal S512x1152 .f32) (x7 : FVec Ideal S1x1152 .f32) (a : Fin 512 → Fin 512 → ℝ)
    (W : Fin 512 → Fin 1152 → ℝ) (c : Fin 1152 → ℝ) (hA : ∀ r d, A (ix2 r d) = ((a r d : ℝ) : EReal)) (hW : ∀ d j, x6 (ix2 d j) = ((W d j : ℝ) : EReal))
    (hc : ∀ j, x7 (ix2 0 j) = ((c j : ℝ) : EReal)) (r : Fin 512) (j : Fin 1152) :
    addf (F := Ideal) (matmul (F := Ideal) dot_S512x512_S512x1152_S512x1152_1_0_0_1_n_n none A (shapeCast S512x1152 x6 shapeCasts_S512x1152_S512x1152)
        (constant S512x1152 .f32 0x00000000#32))
      (broadcastTo S512x1152 (shapeCast S1x1152 x7 shapeCasts_S1x1152_S1x1152) broadcasts_S1x1152_S512x1152) (ix2 r j)
      = ((lin W (a r) j + c j : ℝ) : EReal) := by
  pointwise
  simp only [hA, hW, hc]
  rw [lin_real, ← EReal.coe_add]

/-- The three column groups of the joined projections. -/
theorem cols0 (Y : FVec Ideal S512x1152 .f32) (r j : Fin 512) :
    extractStridedSlice S512x512 ![0, 0] Y slices_S512x1152_o0_0_S512x512 (ix2 r j) = Y (ix2 r ⟨j.val, by omega⟩) := by
  pointwise
theorem cols1 (Y : FVec Ideal S512x1152 .f32) (r j : Fin 512) :
    extractStridedSlice S512x512 ![0, 512] Y slices_S512x1152_o0_512_S512x512 (ix2 r j) = Y (ix2 r ⟨512 + j.val, by omega⟩) := by
  pointwise
theorem cols2 (Y : FVec Ideal S512x1152 .f32) (r : Fin 512) (j : Fin 128) :
    extractStridedSlice S512x128 ![0, 1024] Y slices_S512x1152_o0_1024_S512x128 (ix2 r j) = Y (ix2 r ⟨1024 + j.val, by omega⟩) := by
  pointwise

/-- The rates of a chunk's rows, in every lane. -/
def lanes (Y : FVec Ideal S512x1152 .f32) : FVec Ideal S512x128 .f32 :=
  mulf (broadcast S512x128 (Scalar.ofBits (F := Ideal) .f32 0x3DCCCCCD#32)) (logistic (extractStridedSlice S512x128 ![0, 1024] Y slices_S512x1152_o0_1024_S512x128))

/-- Their sum over rows and lanes. -/
def total (L : FVec Ideal S512x128 .f32) : FVec Ideal S1 .f32 :=
  multiReduction .add [1, 2] S1 (shapeCast S1x512x128 L shapeCasts_S512x128_S1x512x128) 0x00000000#32 reduces_S1x512x128_S1 (.inl rfl) rfl

/-- A row's weight: its rate times the chunk's factor. -/
def weight (L : FVec Ideal S512x128 .f32) (s : FVec Ideal S1 .f32) (q : Elt Ideal .f32) : FVec Ideal S512x1 .f32 :=
  mulf (extractStridedSlice S512x1 ![0, 0] L slices_S512x128_o0_0_S512x1)
    (broadcastTo S512x1 (mulf (broadcast S1x1 (Scalar.ofBits (F := Ideal) .f32 0x3B800000#32))
      (subf (broadcast S1x1 (Scalar.ofBits (F := Ideal) .f32 0x3D800000#32))
        (mulf (broadcast S1x1 q) (divf (broadcast S1x1 (extractAt ![0, 0, 0] (shapeCast S1x1x1 s shapeCasts_S1_S1x1x1) inpos_S1x1x1_p0_0_0))
          (broadcast S1x1 (Scalar.ofBits (F := Ideal) .f32 0x47800000#32)))))) broadcasts_S1x1_S512x1)

theorem pay6_eq (R : FVec Ideal S1024x512 .f32) (x6 : FVec Ideal S512x1152 .f32) (x7 : FVec Ideal S1x1152 .f32) (q : Elt Ideal .f32) :
    k0_pay6 (F := Ideal) R x6 x7 q = weight (lanes (k0_pay3 (F := Ideal) R x6 x7)) (total (lanes (k0_pay3 (F := Ideal) R x6 x7))) q := rfl
theorem pay21_eq (Q : FVec Ideal S4x2x128x512 .f32) (x6 : FVec Ideal S512x1152 .f32) (x7 : FVec Ideal S1x1152 .f32) :
    k0_pay21 (F := Ideal) Q x6 x7 = lanes (k0_pay18 (F := Ideal) Q x6 x7) := rfl
theorem pay22_eq (Q : FVec Ideal S4x2x128x512 .f32) (x6 : FVec Ideal S512x1152 .f32) (x7 : FVec Ideal S1x1152 .f32) :
    k0_pay22 (F := Ideal) Q x6 x7 = total (lanes (k0_pay18 (F := Ideal) Q x6 x7)) := rfl
/-- The second chunk's gradients are the first's, of the second's rows. -/
theorem pay32_eq (K V : FVec Ideal S512x512 .f32) (L : FVec Ideal S512x128 .f32) (q : Elt Ideal .f32) (s : FVec Ideal S1 .f32) (A B : FVec Ideal S512x512 .f32) :
    k0_pay32 (F := Ideal) K V L q s A B = k0_pay16 (F := Ideal) V (weight L s q) (k0_pay26 (F := Ideal) K A) B := rfl
theorem pay33_eq (K V : FVec Ideal S512x512 .f32) (L : FVec Ideal S512x128 .f32) (q : Elt Ideal .f32) (s : FVec Ideal S1 .f32) (A B T : FVec Ideal S512x512 .f32) :
    k0_pay33 (F := Ideal) K V L q s A B T
      = k0_pay17 (F := Ideal) K V (weight L s q) (k0_pay24 (F := Ideal) K A) (k0_pay25 (F := Ideal) K A) (k0_pay26 (F := Ideal) K A) B T := rfl
theorem pay8_eq (R : FVec Ideal S1024x512 .f32) (x6 : FVec Ideal S512x1152 .f32) (x7 : FVec Ideal S1x1152 .f32) (A : FVec Ideal S512x512 .f32) :
    k0_pay8 (F := Ideal) R x6 x7 A = k0_pay24 (F := Ideal) (k0_pay4 (F := Ideal) R x6 x7) A := rfl
theorem pay9_eq (R : FVec Ideal S1024x512 .f32) (x6 : FVec Ideal S512x1152 .f32) (x7 : FVec Ideal S1x1152 .f32) (A : FVec Ideal S512x512 .f32) :
    k0_pay9 (F := Ideal) R x6 x7 A = k0_pay25 (F := Ideal) (k0_pay4 (F := Ideal) R x6 x7) A := rfl
theorem pay10_eq (R : FVec Ideal S1024x512 .f32) (x6 : FVec Ideal S512x1152 .f32) (x7 : FVec Ideal S1x1152 .f32) (A : FVec Ideal S512x512 .f32) :
    k0_pay10 (F := Ideal) R x6 x7 A = k0_pay26 (F := Ideal) (k0_pay4 (F := Ideal) R x6 x7) A := rfl

/-- The rates at an index. -/
theorem lanes_apply (Y : FVec Ideal S512x1152 .f32) (y : Fin 512 → ℝ) (hY : ∀ r (j : Fin 128), Y (ix2 r ⟨1024 + j.val, by omega⟩) = ((y r : ℝ) : EReal)) (r : Fin 512) (j : Fin 128) :
    lanes Y (ix2 r j) = ((num 0x3DCCCCCD#32 * sg (y r) : ℝ) : EReal) := by
  show FloatOps.mulf (FloatOps.ofBits (F := Ideal) .f32 0x3DCCCCCD#32) (FloatOps.logistic (extractStridedSlice S512x128 ![0, 1024] Y slices_S512x1152_o0_1024_S512x128 (ix2 r j))) = _
  rw [cols2, hY, logistic_ideal, ofBits_ideal, lr_word, mul_ideal]

/-- The sum over rows and lanes. -/
theorem total_apply (L : FVec Ideal S512x128 .f32) (y : Fin 512 → ℝ) (hL : ∀ r j, L (ix2 r j) = ((y r : ℝ) : EReal)) :
    total L (ix1 0) = ((128 * ∑ r, y r : ℝ) : EReal) := by
  unfold total
  pointwise
  simp only [hL, coe_sum]
  refine congrArg _ ?_
  simp [Finset.mul_sum]

/-- A row's weight at an index. -/
theorem weight_apply (L : FVec Ideal S512x128 .f32) (s : FVec Ideal S1 .f32) (q : Elt Ideal .f32) (y : Fin 512 → ℝ) (T a : ℝ)
    (hL : ∀ r j, L (ix2 r j) = ((y r : ℝ) : EReal)) (hs : s (ix1 0) = ((T : ℝ) : EReal)) (hq : q = ((a : ℝ) : EReal)) (r : Fin 512) :
    weight L s q (ix2 r 0) = ((y r * (1 / 256 * (1 / 16 - a * (T / 65536))) : ℝ) : EReal) := by
  have e1 : extractStridedSlice S512x1 ![0, 0] L slices_S512x128_o0_0_S512x1 (ix2 r 0) = L (ix2 r 0) := by pointwise
  have e2 : extractAt ![0, 0, 0] (shapeCast S1x1x1 s shapeCasts_S1_S1x1x1) inpos_S1x1x1_p0_0_0 = s (ix1 0) := by pointwise
  show FloatOps.mulf (extractStridedSlice S512x1 ![0, 0] L slices_S512x128_o0_0_S512x1 (ix2 r 0))
    (FloatOps.mulf (FloatOps.ofBits (F := Ideal) .f32 0x3B800000#32) (FloatOps.subf (FloatOps.ofBits (F := Ideal) .f32 0x3D800000#32)
      (FloatOps.mulf q (FloatOps.divf (extractAt ![0, 0, 0] (shapeCast S1x1x1 s shapeCasts_S1_S1x1x1) inpos_S1x1x1_p0_0_0) (FloatOps.ofBits (F := Ideal) .f32 0x47800000#32))))) = _
  rw [e1, e2, hL, hs, hq, ofBits_ideal, ofBits_ideal, ofBits_ideal, w256th_word, sixteenth_word, w65536_word, kdiv_ideal _ _ (by norm_num), mul_ideal, sub_ideal, mul_ideal, mul_ideal]

end Cert.MemoryIdeal.Spec

end
-- ==== Proof.MemoryI.Grad.lean ====
/- A point of the neural-memory kernel's first half, read at an index: both layers' gradients over its two chunks, onto the accumulators. -/
module

public import proofs.«01_k».proof.Proof.MemoryI.Chunk

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

/-- The joined projections and biases: keys', values', and the rates' in every lane. -/
def wcat (P : Par) (d : Fin 512) (j : Fin 1152) : ℝ := if h : j.val < 512 then P.Wk d ⟨j.val, h⟩ else if h : j.val < 1024 then P.Wv d ⟨j.val - 512, by omega⟩ else P.Wl d
def bcat (P : Par) (j : Fin 1152) : ℝ := if h : j.val < 512 then P.bk ⟨j.val, h⟩ else if h : j.val < 1024 then P.bv ⟨j.val - 512, by omega⟩ else P.bl

/-- A chunk's factor: one sixteenth less its share of the running sums. -/
def fac (P : Par) (c : Fin 16) : ℝ := 1 / 16 - (16 - (c.val : ℝ)) / 16 * P.coef c

/-- The token of a chunk's row. -/
abbrev rtok (P : Par) (c : Fin 16) (r : Fin 512) : Fin 512 → ℝ := P.tok (bt r) (Par.at' c (lt r))

/-- The projections of the first chunk's rows, -/
theorem pay3_apply {P : Par} {c : Fin 16} {R : FVec Ideal S1024x512 .f32} {x6 : FVec Ideal S512x1152 .f32} {x7 : FVec Ideal S1x1152 .f32}
    (hR : ∀ r d, R (ix2 (row 0 r) d) = ((rtok P c r d : ℝ) : EReal)) (h6 : ∀ d j, x6 (ix2 d j) = ((wcat P d j : ℝ) : EReal))
    (h7 : ∀ j, x7 (ix2 0 j) = ((bcat P j : ℝ) : EReal)) (r : Fin 512) (j : Fin 1152) :
    k0_pay3 (F := Ideal) R x6 x7 (ix2 r j) = ((lin (wcat P) (rtok P c r) j + bcat P j : ℝ) : EReal) :=
  proj_real _ x6 x7 (rtok P c) (wcat P) (bcat P) (fun r d => (slab0 R r d).trans (hR r d)) h6 h7 r j

/-- and of the second's. -/
theorem pay18_apply {P : Par} {c : Fin 16} {R : FVec Ideal S1024x512 .f32} {x6 : FVec Ideal S512x1152 .f32} {x7 : FVec Ideal S1x1152 .f32}
    (hR : ∀ r d, R (ix2 (row 1 r) d) = ((rtok P c r d : ℝ) : EReal)) (h6 : ∀ d j, x6 (ix2 d j) = ((wcat P d j : ℝ) : EReal))
    (h7 : ∀ j, x7 (ix2 0 j) = ((bcat P j : ℝ) : EReal)) (r : Fin 512) (j : Fin 1152) :
    k0_pay18 (F := Ideal) (k0_pay2 (F := Ideal) R) x6 x7 (ix2 r j) = ((lin (wcat P) (rtok P c r) j + bcat P j : ℝ) : EReal) :=
  proj_real _ x6 x7 (rtok P c) (wcat P) (bcat P) (fun r d => (slab1 R r d).trans (hR r d)) h6 h7 r j

section
variable {P : Par} {c : Fin 16} {Y : FVec Ideal S512x1152 .f32} (hY : ∀ r j, Y (ix2 r j) = ((lin (wcat P) (rtok P c r) j + bcat P j : ℝ) : EReal))

/-- The keys, values and rates of a chunk's rows. -/
abbrev ck (Y : FVec Ideal S512x1152 .f32) : FVec Ideal S512x512 .f32 := extractStridedSlice S512x512 ![0, 0] Y slices_S512x1152_o0_0_S512x512
abbrev cv (Y : FVec Ideal S512x1152 .f32) : FVec Ideal S512x512 .f32 := extractStridedSlice S512x512 ![0, 512] Y slices_S512x1152_o0_512_S512x512

include hY in
theorem ck_apply (r j : Fin 512) : ck Y (ix2 r j) = ((P.key (bt r) (Par.at' c (lt r)) j : ℝ) : EReal) := by
  rw [ck, cols0, hY, bcat, dif_pos j.isLt, lin]
  refine congrArg (fun s : ℝ => ((s + P.bk j : ℝ) : EReal)) (Finset.sum_congr rfl fun d _ => ?_)
  rw [wcat, dif_pos j.isLt]

include hY in
theorem cv_apply (r j : Fin 512) : cv Y (ix2 r j) = ((P.val (bt r) (Par.at' c (lt r)) j : ℝ) : EReal) := by
  have e : (⟨512 + j.val - 512, by omega⟩ : Fin 512) = j := Fin.ext (by show 512 + j.val - 512 = j.val; omega)
  rw [cv, cols1, hY, bcat, dif_neg (by show ¬512 + j.val < 512; omega), dif_pos (by show 512 + j.val < 1024; omega), lin]
  refine congrArg (fun s : ℝ => (s : EReal)) (congrArg₂ (· + ·) (Finset.sum_congr rfl fun d _ => ?_) (congrArg P.bv e))
  rw [wcat, dif_neg (by show ¬512 + j.val < 512; omega), dif_pos (by show 512 + j.val < 1024; omega)]
  exact congrArg (fun k => rtok P c r d * P.Wv d k) e

include hY in
theorem rates_apply (r : Fin 512) (j : Fin 128) : lanes Y (ix2 r j) = ((P.rate (bt r) (Par.at' c (lt r)) : ℝ) : EReal) := by
  refine (lanes_apply Y (fun r => (∑ d, rtok P c r d * P.Wl d) + P.bl) (fun r j => ?_) r j).trans rfl
  rw [hY, bcat, dif_neg (by show ¬1024 + j.val < 512; omega), dif_neg (by show ¬1024 + j.val < 1024; omega), lin]
  refine congrArg (fun s : ℝ => ((s + P.bl : ℝ) : EReal)) (Finset.sum_congr rfl fun d _ => ?_)
  rw [wcat, dif_neg (by show ¬1024 + j.val < 512; omega), dif_neg (by show ¬1024 + j.val < 1024; omega)]

include hY in
/-- A row's weight. -/
theorem wr_apply {q : Elt Ideal .f32} (hq : q = (((16 - (c.val : ℝ)) * Par.pw c / 16 : ℝ) : EReal)) (r : Fin 512) :
    weight (lanes Y) (total (lanes Y)) q (ix2 r 0) = ((P.rate (bt r) (Par.at' c (lt r)) / 512 * 2 * fac P c : ℝ) : EReal) := by
  rw [weight_apply (lanes Y) (total (lanes Y)) q _ _ _ (rates_apply hY) (total_apply (lanes Y) _ (rates_apply hY)) hq]
  refine congrArg _ ?_
  rw [sum_rows (fun b l => P.rate b (Par.at' c l)), fac, Par.coef]
  ring

variable {A B T : FVec Ideal S512x512 .f32} {q : Elt Ideal .f32} (hq : q = (((16 - (c.val : ℝ)) * Par.pw c / 16 : ℝ) : EReal))
  (hA : ∀ d j, A (ix2 d j) = ((P.W 0 d j : ℝ) : EReal)) (hB : ∀ d j, B (ix2 d j) = ((P.W 1 d j : ℝ) : EReal)) (hT : ∀ l j, T (ix2 l j) = ((P.W 1 j l : ℝ) : EReal))

include hY hq hA hB in
/-- The second layer's gradient over a chunk, times its factor. -/
theorem chunk1_apply (i j : Fin 512) :
    k0_pay16 (F := Ideal) (cv Y) (weight (lanes Y) (total (lanes Y)) q) (k0_pay26 (F := Ideal) (ck Y) A) B (ix2 i j) = ((fac P c * P.u 1 c i j : ℝ) : EReal) := by
  rw [pay16_apply (pay26_apply (ck_apply hY) hA) hB (cv_apply hY) (wr_apply hY hq)]
  refine congrArg _ ?_
  rw [Par.u, ← sum_rows (fun b l => P.rate b (Par.at' c l) / 512 * 2 * grad (P.W 0) (P.W 1) (P.key b (Par.at' c l)) (P.val b (Par.at' c l)) 1 i j), Finset.mul_sum]
  refine Finset.sum_congr rfl fun r _ => ?_
  rw [grad, if_neg (by decide)]
  ring

include hY hq hA hB hT in
/-- The first layer's gradient over a chunk, times its factor. -/
theorem chunk0_apply (i j : Fin 512) :
    k0_pay17 (F := Ideal) (ck Y) (cv Y) (weight (lanes Y) (total (lanes Y)) q) (k0_pay24 (F := Ideal) (ck Y) A) (k0_pay25 (F := Ideal) (ck Y) A)
      (k0_pay26 (F := Ideal) (ck Y) A) B T (ix2 i j) = ((fac P c * P.u 0 c i j : ℝ) : EReal) := by
  rw [pay17_apply (pay26_apply (ck_apply hY) hA) hB (cv_apply hY) (wr_apply hY hq) (ck_apply hY) (pay24_apply (ck_apply hY) hA) (pay25_apply (ck_apply hY) hA) hT]
  refine congrArg _ ?_
  rw [Par.u, ← sum_rows (fun b l => P.rate b (Par.at' c l) / 512 * 2 * grad (P.W 0) (P.W 1) (P.key b (Par.at' c l)) (P.val b (Par.at' c l)) 0 i j), Finset.mul_sum]
  refine Finset.sum_congr rfl fun r _ => ?_
  rw [grad, if_pos rfl]
  ring
end

/-- Two gradients onto the accumulator. -/
theorem pay39_apply (a b acc : FVec Ideal S512x512 .f32) (i j : Fin 512) : k0_pay39 (F := Ideal) a b acc (ix2 i j) = acc (ix2 i j) + (a (ix2 i j) + b (ix2 i j)) := by
  unfold k0_pay39
  pointwise
theorem pay40_apply (a b acc : FVec Ideal S512x512 .f32) (i j : Fin 512) : k0_pay40 (F := Ideal) a b acc (ix2 i j) = acc (ix2 i j) + (a (ix2 i j) + b (ix2 i j)) := by
  unfold k0_pay40
  pointwise

section
open Cert.MemoryIdeal.Run
variable {P : Par} {c0 c1 : Fin 16} {i : grid0.Coords} {h : early i} {x0 : Vec Ideal S16 .f32} {x1 : Vec Ideal S64x512 .f32} {x2 x3 x4 x5 : Vec Ideal S4x1x64x512 .f32}
  {x6 : Vec Ideal S512x1152 .f32} {x7 : Vec Ideal S1x1152 .f32} {x8 x9 x10 acc : Vec Ideal S512x512 .f32} {s : Fin 512 → Fin 512 → ℝ}
  (hR0 : ∀ r d, k0_pay36 (F := Ideal) i x1 x2 x3 x4 x5 (ix2 (row 0 r) d) = ((rtok P c0 r d : ℝ) : EReal))
  (hR1 : ∀ r d, k0_pay36 (F := Ideal) i x1 x2 x3 x4 x5 (ix2 (row 1 r) d) = ((rtok P c1 r d : ℝ) : EReal))
  (h6 : ∀ d j, x6 (ix2 d j) = ((wcat P d j : ℝ) : EReal)) (h7 : ∀ j, x7 (ix2 0 j) = ((bcat P j : ℝ) : EReal))
  (h8 : ∀ d j, x8 (ix2 d j) = ((P.W 0 d j : ℝ) : EReal)) (h9 : ∀ d j, x9 (ix2 d j) = ((P.W 1 d j : ℝ) : EReal)) (h10 : ∀ l j, x10 (ix2 l j) = ((P.W 1 j l : ℝ) : EReal))
  (hq0 : coefAt i h 0 x0 = (((16 - (c0.val : ℝ)) * Par.pw c0 / 16 : ℝ) : EReal)) (hq1 : coefAt i h 1 x0 = (((16 - (c1.val : ℝ)) * Par.pw c1 / 16 : ℝ) : EReal))
  (hs : ∀ a b, acc (ix2 a b) = ((s a b : ℝ) : EReal))

include hR0 hR1 h6 h7 h8 h9 h10 hq0 hq1 hs in
/-- A point's step of the first layer's accumulator, -/
theorem next0_apply (a b : Fin 512) : next0 (F := Ideal) i h x0 x1 x2 x3 x4 x5 x6 x7 x8 x9 x10 acc (ix2 a b)
    = ((s a b + (fac P c0 * P.u 0 c0 a b + fac P c1 * P.u 0 c1 a b) : ℝ) : EReal) := by
  unfold next0
  generalize k0_pay36 (F := Ideal) i x1 x2 x3 x4 x5 = R at hR0 hR1 ⊢
  generalize coefAt (F := Ideal) i h 0 x0 = q0 at hq0 ⊢
  generalize coefAt (F := Ideal) i h 1 x0 = q1 at hq1 ⊢
  rw [pay39_apply, hs, pay33_eq, pay6_eq, pay8_eq, pay9_eq, pay10_eq, pay21_eq, pay22_eq]
  have e0 := chunk0_apply (pay3_apply hR0 h6 h7) hq0 h8 h9 h10 a b
  have e1 := chunk0_apply (pay18_apply hR1 h6 h7) hq1 h8 h9 h10 a b
  refine (congrArg₂ (fun x y : EReal => ((s a b : ℝ) : EReal) + (x + y)) e0 e1).trans ?_
  rw [← EReal.coe_add, ← EReal.coe_add]

include hR0 hR1 h6 h7 h8 h9 hq0 hq1 hs in
/-- and of the second's. -/
theorem next1_apply (a b : Fin 512) : next1 (F := Ideal) i h x0 x1 x2 x3 x4 x5 x6 x7 x8 x9 x10 acc (ix2 a b)
    = ((s a b + (fac P c0 * P.u 1 c0 a b + fac P c1 * P.u 1 c1 a b) : ℝ) : EReal) := by
  unfold next1
  generalize k0_pay36 (F := Ideal) i x1 x2 x3 x4 x5 = R at hR0 hR1 ⊢
  generalize coefAt (F := Ideal) i h 0 x0 = q0 at hq0 ⊢
  generalize coefAt (F := Ideal) i h 1 x0 = q1 at hq1 ⊢
  rw [pay40_apply, hs, pay32_eq, pay6_eq, pay10_eq, pay21_eq, pay22_eq]
  have e0 := chunk1_apply (pay3_apply hR0 h6 h7) hq0 h8 h9 a b
  have e1 := chunk1_apply (pay18_apply hR1 h6 h7) hq1 h8 h9 a b
  refine (congrArg₂ (fun x y : EReal => ((s a b : ℝ) : EReal) + (x + y)) e0 e1).trans ?_
  rw [← EReal.coe_add, ← EReal.coe_add]
end

end Cert.MemoryIdeal.Spec

end
-- ==== Proof.MemoryI.Host.lean ====
/- The arrays the neural-memory kernel's operations before its call leave, at an index. -/
module

public import proofs.«01_k».proof.Proof.MemoryI.Grad
public import proofs.«01_k».proof.Proof.Gen.MemoryIdeal.Frame
public import Idealize.ShloMosaic.Lib.StableHlo.ReadAt

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

variable (m : (l : Loc nD τ sig) → Buf (Elt Ideal) l) (c : Dev nD)

/-- The transposed second layer, the two layers, the query bias and the tokens in sixty-fours, at an index. -/
theorem v9_at (l j : Fin 512) : V m c main_v9 (ix2 l j) = m ((c : Thread nD τ).loc main_arg2) (ix3 1 j l) := by
  unfold V
  after_reads_at

theorem v25_at (i j : Fin 512) : V m c main_v25 (ix2 i j) = m ((c : Thread nD τ).loc main_arg2) (ix3 0 i j) := by
  unfold V
  after_reads_at

theorem v27_at (i j : Fin 512) : V m c main_v27 (ix2 i j) = m ((c : Thread nD τ).loc main_arg2) (ix3 1 i j) := by
  unfold V
  after_reads_at

theorem v28_at (j : Fin 512) : V m c main_v28 (ix2 0 j) = m ((c : Thread nD τ).loc main_arg4) (ix1 j) := by
  unfold V
  after_reads_at

theorem v23_at (b : Fin 4) (p : Fin 31) (r : Fin 64) (d : Fin 512) : V m c main_v23 (ix4 b p r d) = m ((c : Thread nD τ).loc main_arg0) (ix3 b ⟨p.val * 64 + r.val, by omega⟩ d) := by
  unfold V
  after_reads_at

/-- Three arrays side by side, at an index. -/
theorem join3_at (a b : FVec Ideal S512x512 .f32) (l : FVec Ideal S512x128 .f32) (d : Fin 512) (j : Fin 1152) :
    concatenate S512x1152 1 [⟨S512x512, a⟩, ⟨S512x512, b⟩, ⟨S512x128, l⟩] concatenates_S512x512_S512x512_S512x128_S512x1152_d1 (ix2 d j)
      = if h : j.val < 512 then a (ix2 d ⟨j.val, h⟩) else if h : j.val < 1024 then b (ix2 d ⟨j.val - 512, by omega⟩) else l (ix2 d ⟨j.val - 1024, by omega⟩) := by
  pointwise
  by_cases h : j.val < 512
  · rw [dif_pos h, dif_pos h]
  by_cases h' : j.val < 1024
  · rw [dif_neg h, dif_neg h, dif_pos (by omega), dif_pos h']
  · rw [dif_neg h, dif_neg h, dif_neg (by omega), dif_neg h']
    refine congrArg l ?_
    exact congrArg (ix2 d) (Fin.ext (by dsimp only; omega))

theorem bias3_at (a b : FVec Ideal S512 .f32) (l : FVec Ideal S1 .f32) (j : Fin 1152) :
    shapeCast S1x1152 (concatenate S1152 0 [⟨S512, a⟩, ⟨S512, b⟩, ⟨S128, broadcastInDim S128 ![0] bcast_S1_S128_0 l⟩] concatenates_S512_S512_S128_S1152_d0) shapeCasts_S1152_S1x1152 (ix2 0 j)
      = if h : j.val < 512 then a (ix1 ⟨j.val, h⟩) else if h : j.val < 1024 then b (ix1 ⟨j.val - 512, by omega⟩) else l (ix1 0) := by
  pointwise
  by_cases h : j.val < 512
  · rw [dif_pos h, dif_pos h]
  by_cases h' : j.val < 1024
  · rw [dif_neg h, dif_neg h, dif_pos (by omega), dif_pos h']
  · rw [dif_neg h, dif_neg h, dif_neg (by omega), dif_neg h']

theorem joinO_at (a b l : FVec Ideal S512x512 .f32) (d : Fin 512) (j : Fin 1536) :
    concatenate S512x1536 1 [⟨S512x512, a⟩, ⟨S512x512, b⟩, ⟨S512x512, l⟩] concatenates_S512x512_S512x512_S512x512_S512x1536_d1 (ix2 d j)
      = if h : j.val < 512 then a (ix2 d ⟨j.val, h⟩) else if h : j.val < 1024 then b (ix2 d ⟨j.val - 512, by omega⟩) else l (ix2 d ⟨j.val - 1024, by omega⟩) := by
  pointwise
  by_cases h : j.val < 512
  · rw [dif_pos h, dif_pos h]
  by_cases h' : j.val < 1024
  · rw [dif_neg h, dif_neg h, dif_pos (by omega), dif_pos h']
  · rw [dif_neg h, dif_neg h, dif_neg (by omega), dif_neg h']
    refine congrArg l ?_
    exact congrArg (ix2 d) (Fin.ext (by dsimp only; omega))

/-- A column in every lane, and an array times an eighth, at an index. -/
theorem lane_at (l : FVec Ideal S512x1 .f32) (d : Fin 512) (j : Fin 128) :
    shapeCast S512x128 (broadcastInDim S1x512x128x1 ![0, 1, 2, 3] bcast_S1x512x1x1_S1x512x128x1_0_1_2_3 (shapeCast S1x512x1x1 l shapeCasts_S512x1_S1x512x1x1)) shapeCasts_S1x512x128x1_S512x128 (ix2 d j)
      = l (ix2 d 0) := by
  pointwise

theorem eighth_at (a : FVec Ideal S512x512 .f32) (i j : Fin 512) :
    mulf a (broadcastInDim S512x512 ![] bcast_S_S512x512 (constant S_ .f32 0x3E000000#32 : FVec Ideal S_ .f32)) (ix2 i j)
      = FloatOps.mulf (a (ix2 i j)) (Ideal.ofBits .f32 0x3E000000#32) := by
  pointwise

theorem v3_eq : V m c main_v3 = concatenate S512x1152 1 [⟨S512x512, m ((c : Thread nD τ).loc main_arg5)⟩, ⟨S512x512, m ((c : Thread nD τ).loc main_arg7)⟩,
    ⟨S512x128, shapeCast S512x128 (broadcastInDim S1x512x128x1 ![0, 1, 2, 3] bcast_S1x512x1x1_S1x512x128x1_0_1_2_3 (shapeCast S1x512x1x1 (m ((c : Thread nD τ).loc main_arg9)) shapeCasts_S512x1_S1x512x1x1)) shapeCasts_S1x512x128x1_S512x128⟩]
    concatenates_S512x512_S512x512_S512x128_S512x1152_d1 := by
  unfold V
  after_reads_simp
  try rfl

theorem v6_eq : V m c main_v6 = shapeCast S1x1152 (concatenate S1152 0 [⟨S512, m ((c : Thread nD τ).loc main_arg6)⟩, ⟨S512, m ((c : Thread nD τ).loc main_arg8)⟩, ⟨S128, broadcastInDim S128 ![0] bcast_S1_S128_0 (m ((c : Thread nD τ).loc main_arg10))⟩]
    concatenates_S512_S512_S128_S1152_d0) shapeCasts_S1152_S1x1152 := by
  unfold V
  after_reads_simp
  try rfl

theorem v22_eq : V m c main_v22 = concatenate S512x1536 1 [⟨S512x512, mulf (m ((c : Thread nD τ).loc main_arg11)) (broadcastInDim S512x512 ![] bcast_S_S512x512 (constant S_ .f32 0x3E000000#32 : FVec Ideal S_ .f32))⟩,
    ⟨S512x512, m ((c : Thread nD τ).loc main_arg12)⟩, ⟨S512x512, m ((c : Thread nD τ).loc main_arg13)⟩] concatenates_S512x512_S512x512_S512x512_S512x1536_d1 := by
  unfold V
  after_reads_simp
  try rfl

theorem v19_eq : V m c main_v19 = Host.divf (mulf (subf (broadcastInDim S16 ![] bcast_S_S16 (constant S_ .f32 0x41800000#32)) (sitofp .f32 (iotaInDim S16 32 0)))
      (Host.powf (broadcastInDim S16 ![] bcast_S_S16 (constant S_ .f32 0x3F666666#32)) (addf (sitofp .f32 (iotaInDim S16 32 0)) (broadcastInDim S16 ![] bcast_S_S16 (constant S_ .f32 0x3F800000#32)))))
    (broadcastInDim S16 ![] bcast_S_S16 (constant S_ .f32 0x41800000#32) : FVec Ideal S16 .f32) := by
  unfold V
  after_reads_simp
  try rfl

/-- The joined projections, -/
theorem v3_at {P : Par} (h5 : ∀ i j, m ((c : Thread nD τ).loc main_arg5) (ix2 i j) = ((P.Wk i j : ℝ) : EReal)) (h7 : ∀ i j, m ((c : Thread nD τ).loc main_arg7) (ix2 i j) = ((P.Wv i j : ℝ) : EReal))
    (h9 : ∀ i j, m ((c : Thread nD τ).loc main_arg9) (ix2 i j) = ((P.Wl i : ℝ) : EReal)) (d : Fin 512) (j : Fin 1152) : V m c main_v3 (ix2 d j) = ((wcat P d j : ℝ) : EReal) := by
  rw [v3_eq]
  refine (join3_at _ _ _ d j).trans ?_
  unfold wcat
  split
  · exact h5 _ _
  split
  · exact h7 _ _
  · exact (lane_at _ d _).trans (h9 _ _)

/-- the joined biases, -/
theorem v6_at {P : Par} (h6 : ∀ j, m ((c : Thread nD τ).loc main_arg6) (ix1 j) = ((P.bk j : ℝ) : EReal)) (h8 : ∀ j, m ((c : Thread nD τ).loc main_arg8) (ix1 j) = ((P.bv j : ℝ) : EReal))
    (h10 : ∀ j, m ((c : Thread nD τ).loc main_arg10) (ix1 j) = ((P.bl : ℝ) : EReal)) (j : Fin 1152) : V m c main_v6 (ix2 0 j) = ((bcat P j : ℝ) : EReal) := by
  rw [v6_eq]
  refine (bias3_at _ _ _ j).trans ?_
  unfold bcat
  split
  · exact h6 _
  split
  · exact h8 _
  · exact h10 _

/-- the joined output projections, the queries' times an eighth, -/
def scat (P : Par) (d : Fin 512) (j : Fin 1536) : ℝ := if h : j.val < 512 then P.Aq d ⟨j.val, h⟩ * (1 / 8) else if h : j.val < 1024 then P.Ak d ⟨j.val - 512, by omega⟩ else P.Av d ⟨j.val - 1024, by omega⟩

theorem v22_at {P : Par} (h11 : ∀ i j, m ((c : Thread nD τ).loc main_arg11) (ix2 i j) = ((P.Aq i j : ℝ) : EReal)) (h12 : ∀ i j, m ((c : Thread nD τ).loc main_arg12) (ix2 i j) = ((P.Ak i j : ℝ) : EReal))
    (h13 : ∀ i j, m ((c : Thread nD τ).loc main_arg13) (ix2 i j) = ((P.Av i j : ℝ) : EReal)) (d : Fin 512) (j : Fin 1536) : V m c main_v22 (ix2 d j) = ((scat P d j : ℝ) : EReal) := by
  rw [v22_eq]
  refine (joinO_at _ _ _ d j).trans ?_
  unfold scat
  split
  · rw [eighth_at, h11]
    exact (congrArg _ eighth_word).trans (mul_ideal _ _)
  split
  · exact h12 _ _
  · exact h13 _ _

/-- The chunks' numbers. -/
theorem numbers_at (k : Fin 16) : sitofp (F := Ideal) .f32 (iotaInDim S16 32 0) (ix1 k) = (((k.val : ℕ) : ℝ) : EReal) := by
  pointwise
  fin_cases k <;> rfl

/-- and the table of the running sums' factors. -/
theorem v19_at (k : Fin 16) : V m c main_v19 (ix1 k) = (((16 - (k.val : ℝ)) * Par.pw k / 16 : ℝ) : EReal) := by
  rw [v19_eq]
  show FloatOps.hostDivf (FloatOps.mulf (FloatOps.subf (FloatOps.ofBits .f32 0x41800000#32) (sitofp .f32 (iotaInDim S16 32 0) (ix1 k)))
    (FloatOps.hostPowf (FloatOps.ofBits .f32 0x3F666666#32) (FloatOps.addf (sitofp .f32 (iotaInDim S16 32 0) (ix1 k)) (FloatOps.ofBits .f32 0x3F800000#32))))
    (FloatOps.ofBits .f32 0x41800000#32) = _
  rw [numbers_at k, ofBits_ideal, ofBits_ideal, ofBits_ideal, one_word, w16_word, mom_word, add_ideal, sub_ideal]
  have e : FloatOps.hostPowf (F := Ideal) (φ := .f32) ((num 0x3F666666#32 : ℝ) : EReal) (((k.val : ℝ) + 1 : ℝ) : EReal) = ((Par.pw k : ℝ) : EReal) := rfl
  rw [e, mul_ideal, div_ideal _ _ (by norm_num)]

end Cert.MemoryIdeal.Spec

end
-- ==== Proof.MemoryI.Data.lean ====
module

public import proofs.«01_k».proof.Proof.MemoryI.Step

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions in closed form -/

theorem hfirst : ∀ t : Fin cfg0.N, first (grid0.coords t) ↔ t.val = 0 :=
  (by decide +kernel : ∀ t : Fin grid0.N, first (grid0.coords t) ↔ t.val = 0)
theorem hearly : ∀ t : Fin cfg0.N, early (grid0.coords t) ↔ t.val < 8 :=
  (by decide +kernel : ∀ t : Fin grid0.N, early (grid0.coords t) ↔ t.val < 8)
theorem hturn : ∀ t : Fin cfg0.N, turn (grid0.coords t) ↔ t.val = 7 :=
  (by decide +kernel : ∀ t : Fin grid0.N, turn (grid0.coords t) ↔ t.val = 7)
theorem hlate : ∀ t : Fin cfg0.N, late (grid0.coords t) ↔ 8 ≤ t.val :=
  (by decide +kernel : ∀ t : Fin grid0.N, late (grid0.coords t) ↔ 8 ≤ t.val)

/-- The output's buffer is left alone in the first half, -/
theorem idle14 : ∀ t : Fin cfg0.N, t.val < 8 → cfg0.idle 14 (grid0.coords t) = true :=
  (by decide +kernel : ∀ t : Fin cfg0.N, t.val < 8 → cfg0.idle 14 (grid0.coords t) = true)
/-- and not written back there; -/
theorem noFlush14 : ∀ t : Fin cfg0.N, t.val < 8 → (cfg0.win 14).flush t = false :=
  (by decide +kernel : ∀ t : Fin cfg0.N, t.val < 8 → (cfg0.win 14).flush t = false)
/-- in the second half it is stored. -/
theorem live14 : ∀ t : Fin cfg0.N, 8 ≤ t.val → cfg0.idle 14 (grid0.coords t) = false :=
  (by decide +kernel : ∀ t : Fin cfg0.N, 8 ≤ t.val → cfg0.idle 14 (grid0.coords t) = false)

/-! ## The windows' buffers and the scratch -/

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x64x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1x64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1152 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1152 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1536 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4x1x256x1536 .bf16 := win0_14.stage (cfg0.slots t 14)
abbrev hs0_14 (t : Fin cfg0.N) : (ms0_14 t).IsWhole := hstage0_14 ((cfg0.slots t 14).cast nbuf0_14)
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S512x512 .f32 := Memref.whole cc0_scratch3

/-- The scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the scratch holds point by point -/

/-- The point `n`. -/
def pt (n : ℕ) (h : n < 8) : Fin cfg0.N := ⟨n, by have : cfg0.N = 16 := N_0; omega⟩

theorem early_pt (n : ℕ) (h : n < 8) : early (grid0.coords (pt n h)) := (hearly _).mpr h

/-- The two accumulators before point `n`: zero, then each first-half point's gradients added. -/
def accs (c : Dev nD) : ℕ → Vec F S512x512 .f32 × Vec F S512x512 .f32
  | 0 => (k0_pay37, k0_pay38)
  | n + 1 => if h : n < 8 then
      (next0 (grid0.coords (pt n h)) (early_pt n h) (iblk m c 0 (pt n h)) (iblk m c 1 (pt n h)) (iblk m c 2 (pt n h)) (iblk m c 3 (pt n h)) (iblk m c 4 (pt n h)) (iblk m c 5 (pt n h)) (iblk m c 6 (pt n h)) (iblk m c 7 (pt n h)) (iblk m c 8 (pt n h)) (iblk m c 9 (pt n h)) (iblk m c 10 (pt n h)) (accs c n).1,
       next1 (grid0.coords (pt n h)) (early_pt n h) (iblk m c 0 (pt n h)) (iblk m c 1 (pt n h)) (iblk m c 2 (pt n h)) (iblk m c 3 (pt n h)) (iblk m c 4 (pt n h)) (iblk m c 5 (pt n h)) (iblk m c 6 (pt n h)) (iblk m c 7 (pt n h)) (iblk m c 8 (pt n h)) (iblk m c 9 (pt n h)) (iblk m c 10 (pt n h)) (accs c n).2)
    else accs c n

/-- The new weights of the first layer, -/
def new0 (c : Dev nD) : Vec F S512x512 .f32 := k0_pay34 (accs m c 8).1 (iblk m c 8 (pt 7 (by omega))) (iblk m c 8 (pt 7 (by omega)))
/-- and of the second. -/
def new1 (c : Dev nD) : Vec F S512x512 .f32 := k0_pay35 (accs m c 8).2 (iblk m c 9 (pt 7 (by omega))) (iblk m c 9 (pt 7 (by omega)))

theorem accs_early (c : Dev nD) (t : Fin cfg0.N) (h : t.val < 8) : accs m c (t.val + 1)
    = (next0 (grid0.coords t) ((hearly t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (accs m c t.val).1,
       next1 (grid0.coords t) ((hearly t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (accs m c t.val).2) := by
  rw [accs, dif_pos h]; rfl

theorem accs_late (c : Dev nD) (n : ℕ) (h : ¬n < 8) : accs m c (n + 1) = accs m c n := by
  rw [accs, dif_neg h]

/-- The invariant before point `n`: the accumulators at `accs` after the first point, the new weights in place from
    the turn on. -/
def PhiS (c : Dev nD) (n : ℕ) : sProp 𝕄 :=
  if n = 0 then Pipeline.ΦA spec0 c
  else if n < 8 then iprop(iprop(owns (c : Thread nD τ) scM0_0 fullShare (accs m c n).1 ∗ owns (c : Thread nD τ) scM0_1 fullShare (accs m c n).2 ∗ (∃ d, owns (c : Thread nD τ) scM0_2 fullShare d) ∗ (∃ d, owns (c : Thread nD τ) scM0_3 fullShare d)) ∗ (∃ r, prngReg c r))
  else iprop(iprop(owns (c : Thread nD τ) scM0_0 fullShare (accs m c n).1 ∗ owns (c : Thread nD τ) scM0_1 fullShare (accs m c n).2 ∗ owns (c : Thread nD τ) scM0_2 fullShare (new0 m c) ∗ owns (c : Thread nD τ) scM0_3 fullShare (new1 m c)) ∗ (∃ r, prngReg c r))

theorem PhiS_early (c : Dev nD) (n : ℕ) (h0 : n ≠ 0) (h : n < 8) :
    PhiS m c n = iprop(iprop(owns (c : Thread nD τ) scM0_0 fullShare (accs m c n).1 ∗ owns (c : Thread nD τ) scM0_1 fullShare (accs m c n).2 ∗ (∃ d, owns (c : Thread nD τ) scM0_2 fullShare d) ∗ (∃ d, owns (c : Thread nD τ) scM0_3 fullShare d)) ∗ (∃ r, prngReg c r)) := by
  rw [PhiS, if_neg h0, if_pos h]

theorem PhiS_late (c : Dev nD) (n : ℕ) (h : ¬n < 8) :
    PhiS m c n = iprop(iprop(owns (c : Thread nD τ) scM0_0 fullShare (accs m c n).1 ∗ owns (c : Thread nD τ) scM0_1 fullShare (accs m c n).2 ∗ owns (c : Thread nD τ) scM0_2 fullShare (new0 m c) ∗ owns (c : Thread nD τ) scM0_3 fullShare (new1 m c)) ∗ (∃ r, prngReg c r)) := by
  rw [PhiS, if_neg (by omega), if_neg h]

/-! ## The proof data -/

/-- The proof data: inputs left at their blocks, the output's buffer at the point's block of the new weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => block (grid0.coords t) (iblk m c 1 t) (iblk m c 2 t) (iblk m c 3 t) (iblk m c 4 t) (iblk m c 5 t) (iblk m c 11 t) (iblk m c 12 t) (iblk m c 13 t) (new0 m c) (new1 m c)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  before0_12_of m (dats m 0 c) (A_eq m c 12) (after0_12 m c) t d
theorem after0_13 (c : Dev nD) (t : Fin cfg0.N) : (dats m 0 c).after 13 t = iblk m c 13 t := by dsimp only [dats]
theorem before0_13 (c : Dev nD) (t : Fin cfg0.N) (d) : (dats m 0 c).before 13 t d = iblk m c 13 t :=
  before0_13_of m (dats m 0 c) (A_eq m c 13) (after0_13 m c) t d
theorem after0_14 (c : Dev nD) (t : Fin cfg0.N) : (dats m 0 c).after 14 t = block (grid0.coords t) (iblk m c 1 t) (iblk m c 2 t) (iblk m c 3 t) (iblk m c 4 t) (iblk m c 5 t) (iblk m c 11 t) (iblk m c 12 t) (iblk m c 13 t) (new0 m c) (new1 m c) := by dsimp only [dats]

/-- An input's window is handed back at its block. -/
theorem leaves_in (c : Dev nD) (w : Fin cfg0.W) (h : w ≠ 14) (t : Fin cfg0.N) :
    (dats m 0 c).leavesExact w t = owns (c : Thread nD τ) ((cfg0.win w).stage (cfg0.slots t w)) fullShare ((dats m 0 c).after w t) := by
  have hi : cfg0.idle w (cfg0.grid.coords t) = false :=
    (by decide +kernel : ∀ w : Fin cfg0.W, w ≠ 14 → ∀ t : Fin cfg0.N, cfg0.idle w (cfg0.grid.coords t) = false) w h t
  unfold Dat.leavesExact; rw [hi]

/-- The output's window in the second half. -/
theorem leaves_out (c : Dev nD) (t : Fin cfg0.N) (h : 8 ≤ t.val) :
    (dats m 0 c).leavesExact 14 t = owns (c : Thread nD τ) (ms0_14 t) fullShare (block (grid0.coords t) (iblk m c 1 t) (iblk m c 2 t) (iblk m c 3 t) (iblk m c 4 t) (iblk m c 5 t) (iblk m c 11 t) (iblk m c 12 t) (iblk m c 13 t) (new0 m c) (new1 m c)) := by
  unfold Dat.leavesExact; rw [live14 t h, after0_14]

/-- The inputs' buffers at their blocks. -/
def InsAt (c : Dev nD) (t : Fin cfg0.N) : sProp 𝕄 :=
  Ins c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

end Cert.MemoryIdeal.Run
-- ==== Proof.MemoryI.Win.lean ====
/- The blocks of the neural-memory kernel's windows, at an index of the arrays they are cut from. -/
module

public import proofs.«01_k».proof.Proof.MemoryI.Grad
public import proofs.«01_k».proof.Proof.MemoryI.Data
public import Idealize.ShloMosaic.Lib.Pipeline.ValueKit

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

open Cert.MemoryIdeal.Run

variable (m : (l : Loc nD τ sig) → Buf (Elt Ideal) l) (c : Dev nD)

/-- Where the windows' blocks lie. -/
theorem index_whole (t : Fin cfg0.N) : win0_0.index t = ![0] ∧ win0_1.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, win0_0.index t = ![0] ∧ win0_1.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]) t

theorem index_tokens (t : Fin cfg0.N) : win0_2.index t = ![0, 4 * (t.val % 8) + 0 - 1, 0, 0] ∧ win0_3.index t = ![0, 4 * (t.val % 8) + 1 - 1, 0, 0]
    ∧ win0_4.index t = ![0, 4 * (t.val % 8) + 2 - 1, 0, 0] ∧ win0_5.index t = ![0, 4 * (t.val % 8) + 3 - 1, 0, 0] :=
  (by decide +kernel : ∀ t : Fin grid0.N, win0_2.index t = ![0, 4 * (t.val % 8) + 0 - 1, 0, 0] ∧ win0_3.index t = ![0, 4 * (t.val % 8) + 1 - 1, 0, 0]
    ∧ win0_4.index t = ![0, 4 * (t.val % 8) + 2 - 1, 0, 0] ∧ win0_5.index t = ![0, 4 * (t.val % 8) + 3 - 1, 0, 0]) t

theorem index_out (t : Fin cfg0.N) : win0_14.index t = ![0, t.val - 8, 0, 0] :=
  (by decide +kernel : ∀ t : Fin grid0.N, win0_14.index t = ![0, t.val - 8, 0, 0]) t

theorem blk0 (t : Fin cfg0.N) (k : Fin 16) : iblk m c 0 t (ix1 k) = V m c main_v19 (ix1 k) := by
  obtain ⟨e, -⟩ := index_whole t
  blk_ext [iblk, e]

theorem blk1 (t : Fin cfg0.N) (i : Fin 64) (j : Fin 512) : iblk m c 1 t (ix2 i j) = V m c main_arg1 (ix2 i j) := by
  obtain ⟨-, e, -⟩ := index_whole t
  blk_ext [iblk, e]

theorem blk6 (t : Fin cfg0.N) (i : Fin 512) (j : Fin 1152) : iblk m c 6 t (ix2 i j) = V m c main_v3 (ix2 i j) := by
  obtain ⟨-, -, e, -⟩ := index_whole t
  blk_ext [iblk, e]

theorem blk7 (t : Fin cfg0.N) (i : Fin 1) (j : Fin 1152) : iblk m c 7 t (ix2 i j) = V m c main_v6 (ix2 i j) := by
  obtain ⟨-, -, -, e, -⟩ := index_whole t
  blk_ext [iblk, e]

theorem blk8 (t : Fin cfg0.N) (i : Fin 512) (j : Fin 512) : iblk m c 8 t (ix2 i j) = V m c main_v25 (ix2 i j) := by
  obtain ⟨-, -, -, -, e, -⟩ := index_whole t
  blk_ext [iblk, e]

theorem blk9 (t : Fin cfg0.N) (i : Fin 512) (j : Fin 512) : iblk m c 9 t (ix2 i j) = V m c main_v27 (ix2 i j) := by
  obtain ⟨-, -, -, -, -, e, -⟩ := index_whole t
  blk_ext [iblk, e]

theorem blk10 (t : Fin cfg0.N) (i : Fin 512) (j : Fin 512) : iblk m c 10 t (ix2 i j) = V m c main_v9 (ix2 i j) := by
  obtain ⟨-, -, -, -, -, -, e, -⟩ := index_whole t
  blk_ext [iblk, e]

theorem blk11 (t : Fin cfg0.N) (i : Fin 512) (j : Fin 512) : iblk m c 11 t (ix2 i j) = V m c main_arg3 (ix2 i j) := by
  obtain ⟨-, -, -, -, -, -, -, e, -⟩ := index_whole t
  blk_ext [iblk, e]

theorem blk12 (t : Fin cfg0.N) (i : Fin 1) (j : Fin 512) : iblk m c 12 t (ix2 i j) = V m c main_v28 (ix2 i j) := by
  obtain ⟨-, -, -, -, -, -, -, -, e, -⟩ := index_whole t
  blk_ext [iblk, e]

theorem blk13 (t : Fin cfg0.N) (i : Fin 512) (j : Fin 1536) : iblk m c 13 t (ix2 i j) = V m c main_v22 (ix2 i j) := by
  obtain ⟨-, -, -, -, -, -, -, -, -, e⟩ := index_whole t
  blk_ext [iblk, e]

/-- The four token windows' blocks of a point. -/
def toks (t : Fin cfg0.N) : Fin 4 → Vec Ideal S4x1x64x512 .f32 := ![iblk m c 2 t, iblk m c 3 t, iblk m c 4 t, iblk m c 5 t]

theorem tok0_at (t : Fin cfg0.N) (b : Fin 4) (r : Fin 64) (d : Fin 512) :
    iblk m c 2 t (ix4 b 0 r d) = V m c main_v23 (ix4 b ⟨4 * (t.val % 8) + 0 - 1, by omega⟩ r d) := by
  have e := (index_tokens t).1
  blk_ext [iblk, e]

theorem tok1_at (t : Fin cfg0.N) (b : Fin 4) (r : Fin 64) (d : Fin 512) :
    iblk m c 3 t (ix4 b 0 r d) = V m c main_v23 (ix4 b ⟨4 * (t.val % 8) + 1 - 1, by omega⟩ r d) := by
  have e := (index_tokens t).2.1
  blk_ext [iblk, e]

theorem tok2_at (t : Fin cfg0.N) (b : Fin 4) (r : Fin 64) (d : Fin 512) :
    iblk m c 4 t (ix4 b 0 r d) = V m c main_v23 (ix4 b ⟨4 * (t.val % 8) + 2 - 1, by omega⟩ r d) := by
  have e := (index_tokens t).2.2.1
  blk_ext [iblk, e]

theorem tok3_at (t : Fin cfg0.N) (b : Fin 4) (r : Fin 64) (d : Fin 512) :
    iblk m c 5 t (ix4 b 0 r d) = V m c main_v23 (ix4 b ⟨4 * (t.val % 8) + 3 - 1, by omega⟩ r d) := by
  have e := (index_tokens t).2.2.2
  blk_ext [iblk, e]

theorem toks_at (t : Fin cfg0.N) (w : Fin 4) (b : Fin 4) (r : Fin 64) (d : Fin 512) :
    toks m c t w (ix4 b 0 r d) = V m c main_v23 (ix4 b ⟨4 * (t.val % 8) + w.val - 1, by omega⟩ r d) := by
  match w with
  | 0 => exact tok0_at m c t b r d
  | 1 => exact tok1_at m c t b r d
  | 2 => exact tok2_at m c t b r d
  | 3 => exact tok3_at m c t b r d

/-- The coefficient of a point's chunk. -/
theorem coefAt_eq (t : Fin cfg0.N) (h : t.val < 8) (r : Fin 2) (x0 : Vec Ideal S16 .f32) :
    coefAt (grid0.coords t) ((hearly t).mpr h) r x0 = x0 (ix1 ⟨2 * t.val + r.val, by omega⟩) := by
  have e : (k0_off1 (grid0.coords t) (BitVec.ofNat 32 r.val)) = ![2 * t.val + r.val] :=
    (by decide +kernel : ∀ (t : Fin grid0.N) (r : Fin 2), k0_off1 (grid0.coords t) (BitVec.ofNat 32 r.val) = ![2 * t.val + r.val]) t r
  unfold coefAt
  refine congrArg x0 (funext fun a => Fin.ext ?_)
  obtain rfl : a = 0 := Subsingleton.elim _ _
  show k0_off1 (grid0.coords t) (BitVec.ofNat 32 r.val) 0 + 1 * 0 = 2 * t.val + r.val
  rw [e]
  rfl

end Cert.MemoryIdeal.Spec

end
-- ==== Proof.MemoryI.Block.lean ====
/- The neural-memory kernel's payloads of the second half and its rows, at an index. -/
module

public import proofs.«01_k».proof.Proof.MemoryI.Grad

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

/-- A projection of the block's rows with its bias, -/
theorem projR_real (R : FVec Ideal S1024x512 .f32) (x11 : FVec Ideal S512x512 .f32) (x12 : FVec Ideal S1x512 .f32) (t : Fin 1024 → Fin 512 → ℝ)
    (W : Fin 512 → Fin 512 → ℝ) (c : Fin 512 → ℝ) (hR : ∀ r d, R (ix2 r d) = ((t r d : ℝ) : EReal)) (hW : ∀ d j, x11 (ix2 d j) = ((W d j : ℝ) : EReal))
    (hc : ∀ j, x12 (ix2 0 j) = ((c j : ℝ) : EReal)) (r : Fin 1024) (j : Fin 512) :
    addf (F := Ideal) (matmul (F := Ideal) dot_S1024x512_S512x512_S1024x512_1_0_0_1_n_n none R x11 (constant S1024x512 .f32 0x00000000#32))
      (broadcastTo S1024x512 (shapeCast S1x512 x12 shapeCasts_S1x512_S1x512) broadcasts_S1x512_S1024x512) (ix2 r j)
      = ((lin W (t r) j + c j : ℝ) : EReal) := by
  pointwise
  simp only [hR, hW, hc]
  rw [lin_real, ← EReal.coe_add]

/-- a product with a layer's weights, -/
theorem mmR_real (A : FVec Ideal S1024x512 .f32) (B : FVec Ideal S512x512 .f32) (a : Fin 1024 → Fin 512 → ℝ) (b : Fin 512 → Fin 512 → ℝ) (hA : ∀ r d, A (ix2 r d) = ((a r d : ℝ) : EReal))
    (hB : ∀ d j, B (ix2 d j) = ((b d j : ℝ) : EReal)) (r : Fin 1024) (j : Fin 512) :
    matmul (F := Ideal) dot_S1024x512_S512x512_S1024x512_1_0_0_1_n_n none A B (constant S1024x512 .f32 0x00000000#32) (ix2 r j) = ((lin b (a r) j : ℝ) : EReal) := by
  pointwise
  simp only [hA, hB]
  rw [lin_real]

/-- a layer, -/
abbrev layR (A : FVec Ideal S1024x512 .f32) (B : FVec Ideal S512x512 .f32) : FVec Ideal S1024x512 .f32 :=
  addf (F := Ideal) A (mulf (F := Ideal) (matmul (F := Ideal) dot_S1024x512_S512x512_S1024x512_1_0_0_1_n_n none A B (constant S1024x512 .f32 0x00000000#32))
    (logistic (F := Ideal) (matmul (F := Ideal) dot_S1024x512_S512x512_S1024x512_1_0_0_1_n_n none A B (constant S1024x512 .f32 0x00000000#32))))

theorem layR_real (A : FVec Ideal S1024x512 .f32) (B : FVec Ideal S512x512 .f32) (a : Fin 1024 → Fin 512 → ℝ) (b : Fin 512 → Fin 512 → ℝ) (hA : ∀ r d, A (ix2 r d) = ((a r d : ℝ) : EReal))
    (hB : ∀ d j, B (ix2 d j) = ((b d j : ℝ) : EReal)) (r : Fin 1024) (j : Fin 512) : layR A B (ix2 r j) = ((layer b (a r) j : ℝ) : EReal) := by
  have e := mmR_real A B a b hA hB r j
  show FloatOps.addf (A (ix2 r j)) (FloatOps.mulf (matmul (F := Ideal) dot_S1024x512_S512x512_S1024x512_1_0_0_1_n_n none A B (constant S1024x512 .f32 0x00000000#32) (ix2 r j))
    (FloatOps.logistic (matmul (F := Ideal) dot_S1024x512_S512x512_S1024x512_1_0_0_1_n_n none A B (constant S1024x512 .f32 0x00000000#32) (ix2 r j)))) = _
  rw [hA, e, logistic_ideal, mul_ideal, add_ideal]
  rfl

/-- and the joined output projections, cut in four. -/
theorem outR_real (A : FVec Ideal S1024x512 .f32) (B : FVec Ideal S512x1536 .f32) (a : Fin 1024 → Fin 512 → ℝ) (b : Fin 512 → Fin 1536 → ℝ) (hA : ∀ r d, A (ix2 r d) = ((a r d : ℝ) : EReal))
    (hB : ∀ d j, B (ix2 d j) = ((b d j : ℝ) : EReal)) (u : Fin 4) (q : Fin 256) (j : Fin 1536) :
    truncf (F := Ideal) .bf16 (shapeCast S4x1x256x1536 (matmul (F := Ideal) dot_S1024x512_S512x1536_S1024x1536_1_0_0_1_n_n none A (shapeCast S512x1536 B shapeCasts_S512x1536_S512x1536)
      (constant S1024x1536 .f32 0x00000000#32)) shapeCasts_S1024x1536_S4x1x256x1536) bitsLt_bf16_f32 (ix4 u 0 q j)
      = ((lin b (a ⟨u.val * 256 + q.val, by omega⟩) j : ℝ) : EReal) := by
  pointwise
  simp only [hA, hB]
  rw [lin_real]

/-- A late point's block: the updated memory at the rows' queries, projected. -/
theorem pay1_apply (R : FVec Ideal S1024x512 .f32) (x11 n0 n1 : FVec Ideal S512x512 .f32) (x12 : FVec Ideal S1x512 .f32) (x13 : FVec Ideal S512x1536 .f32) (t : Fin 1024 → Fin 512 → ℝ)
    (W N0 N1 : Fin 512 → Fin 512 → ℝ) (c : Fin 512 → ℝ) (S : Fin 512 → Fin 1536 → ℝ) (hR : ∀ r d, R (ix2 r d) = ((t r d : ℝ) : EReal)) (hW : ∀ d j, x11 (ix2 d j) = ((W d j : ℝ) : EReal))
    (hc : ∀ j, x12 (ix2 0 j) = ((c j : ℝ) : EReal)) (h0 : ∀ d j, n0 (ix2 d j) = ((N0 d j : ℝ) : EReal)) (h1 : ∀ d j, n1 (ix2 d j) = ((N1 d j : ℝ) : EReal))
    (hS : ∀ d j, x13 (ix2 d j) = ((S d j : ℝ) : EReal)) (u : Fin 4) (q : Fin 256) (j : Fin 1536) :
    k0_pay1 (F := Ideal) R x11 x12 n0 n1 x13 (ix4 u 0 q j)
      = ((lin S (mem N0 N1 fun j => lin W (t ⟨u.val * 256 + q.val, by omega⟩) j + c j) j : ℝ) : EReal) := by
  have hq := projR_real R x11 x12 t W c hR hW hc
  have hz := layR_real _ n0 (fun r j => lin W (t r) j + c j) N0 hq h0
  have hy := layR_real _ n1 (fun r => layer N0 fun j => lin W (t r) j + c j) N1 hz h1
  exact outR_real _ x13 (fun r => layer N1 (layer N0 fun j => lin W (t r) j + c j)) S hy hS u q j

/-- The weights after the update. -/
theorem pay34_apply (a w : FVec Ideal S512x512 .f32) (g W : Fin 512 → Fin 512 → ℝ) (ha : ∀ i j, a (ix2 i j) = ((g i j : ℝ) : EReal)) (hw : ∀ i j, w (ix2 i j) = ((W i j : ℝ) : EReal))
    (i j : Fin 512) : k0_pay34 (F := Ideal) a w w (ix2 i j)
      = ((W i j - (num 0x3C23D70A#32 * g i j / (|g i j| + num 0x322BCC77#32) + num 0x38D1B717#32 * W i j) : ℝ) : EReal) := by
  have hn : |g i j| + num 0x322BCC77#32 ≠ 0 := ne_of_gt (add_pos_of_nonneg_of_pos (abs_nonneg _) eps_pos)
  have id2 : ∀ x : FVec Ideal S512x512 .f32, shapeCast S512x512 x shapeCasts_S512x512_S512x512 (ix2 i j) = x (ix2 i j) := fun x => by pointwise
  unfold k0_pay34
  refine (id2 _).trans ?_
  show FloatOps.subf (shapeCast S512x512 w shapeCasts_S512x512_S512x512 (ix2 i j)) (FloatOps.addf (FloatOps.divf (FloatOps.mulf (FloatOps.ofBits .f32 0x3C23D70A#32) (a (ix2 i j)))
    (FloatOps.addf (FloatOps.absf (a (ix2 i j))) (FloatOps.ofBits .f32 0x322BCC77#32)))
    (FloatOps.mulf (FloatOps.ofBits .f32 0x38D1B717#32) (shapeCast S512x512 w shapeCasts_S512x512_S512x512 (ix2 i j)))) = _
  rw [id2, ha, hw, ofBits_ideal, ofBits_ideal, ofBits_ideal, step_word, eps_word, decay_word, kabs_ideal, add_ideal, mul_ideal, kdiv_ideal _ _ hn, mul_ideal, add_ideal, sub_ideal]

theorem pay35_apply (a w : FVec Ideal S512x512 .f32) (g W : Fin 512 → Fin 512 → ℝ) (ha : ∀ i j, a (ix2 i j) = ((g i j : ℝ) : EReal)) (hw : ∀ i j, w (ix2 i j) = ((W i j : ℝ) : EReal))
    (i j : Fin 512) : k0_pay35 (F := Ideal) a w w (ix2 i j)
      = ((W i j - (num 0x3C23D70A#32 * g i j / (|g i j| + num 0x322BCC77#32) + num 0x38D1B717#32 * W i j) : ℝ) : EReal) :=
  pay34_apply a w g W ha hw i j

/-- Four blocks of sixty-four rows below each other in each batch member, at an index. -/
theorem stack_at (f : Fin 4 → FVec Ideal S4x1x64x512 .f32) (g0 g1 g2 g3 : FVec Ideal S4x1x64x512 .f32) (h0 : g0 = f 0) (h1 : g1 = f 1) (h2 : g2 = f 2) (h3 : g3 = f 3)
    (b w : Fin 4) (r : Fin 64) (d : Fin 512) :
    shapeCast S1024x512 (concatenate S4x4x64x512 1 [⟨S4x1x64x512, g0⟩, ⟨S4x1x64x512, g1⟩, ⟨S4x1x64x512, g2⟩, ⟨S4x1x64x512, g3⟩]
      concatenates_S4x1x64x512_S4x1x64x512_S4x1x64x512_S4x1x64x512_S4x4x64x512_d1) shapeCasts_S4x4x64x512_S1024x512 (ix2 ⟨b.val * 256 + (w.val * 64 + r.val), by omega⟩ d)
      = f w (ix4 b 0 r d) := by
  have cg : ∀ (v : Fin 4) (p : Fin 1), v.val = w.val → f v (ix4 b p r d) = f w (ix4 b 0 r d) := fun v p e => by
    rw [Fin.ext e, Subsingleton.elim p 0]
  pointwise
  split
  · rw [h0]; exact cg 0 _ (by show 0 = w.val; omega)
  split
  · rw [h1]; exact cg 1 _ (by show 1 = w.val; omega)
  split
  · rw [h2]; exact cg 2 _ (by show 2 = w.val; omega)
  · rw [h3]; exact cg 3 _ (by show 3 = w.val; omega)

/-- The rows of a point's block; at a half's first point the tile's first sixty-four are the meta memory's. -/
theorem rows_at (i : grid0.Coords) (z : Bool) (hz : Scalar.cmpi .eq (Scalar.remsi (BitVec.ofNat 32 (i 0).val) 8#32) 0#32 = if z then 1#1 else 0#1) (x1 : FVec Ideal S64x512 .f32)
    (f : Fin 4 → FVec Ideal S4x1x64x512 .f32) (b w : Fin 4) (r : Fin 64) (d : Fin 512) :
    k0_pay36 (F := Ideal) i x1 (f 0) (f 1) (f 2) (f 3) (ix2 ⟨b.val * 256 + (w.val * 64 + r.val), by omega⟩ d) = if w = 0 ∧ z then x1 (ix2 r d) else f w (ix4 b 0 r d) := by
  have id4 : ∀ x : FVec Ideal S4x1x64x512 .f32, shapeCast S4x1x64x512 x shapeCasts_S4x1x64x512_S4x1x64x512 = x := fun x => by
    funext y
    idx_vars y
    pointwise
  unfold k0_pay36
  dsimp only
  rw [hz, id4, id4, id4, id4]
  cases z
  · refine (stack_at f _ _ _ _ rfl rfl rfl rfl b w r d).trans ?_
    rw [if_neg (fun h => absurd h.2 Bool.false_ne_true)]
  · refine (stack_at (fun w => if w = 0 then broadcastTo S4x1x64x512 (shapeCast S1x1x64x512 (shapeCast S1x1x64x512 x1 shapeCasts_S64x512_S1x1x64x512) shapeCasts_S1x1x64x512_S1x1x64x512)
      broadcasts_S1x1x64x512_S4x1x64x512 else f w) _ _ _ _ rfl rfl rfl rfl b w r d).trans ?_
    by_cases hw : w = 0
    · simp only [hw, if_true, true_and]
      pointwise
    · simp only [hw, if_false, false_and]

end Cert.MemoryIdeal.Spec

end
-- ==== Proof.MemoryI.Value.lean ====
/- The neural-memory kernel's result array: the accumulators, the new weights, the retrieval. -/
module

public import proofs.«01_k».proof.Proof.MemoryI.Host
public import proofs.«01_k».proof.Proof.MemoryI.Win
public import proofs.«01_k».proof.Proof.MemoryI.Block

@[expose] public section

set_option maxRecDepth 16384

noncomputable section

namespace Cert.MemoryIdeal.Spec

open Cert.MemoryIdeal Cert.MemoryIdeal.Gen Idealize.ShloMosaic Idealize.ShloMosaic.TcCoe Cert.MemSpec Cert.Reals

open Cert.MemoryIdeal.Run
open Idealize.SL.Sem

variable (m : (l : Loc nD τ sig) → Buf (Elt Ideal) l) (c : Dev nD) {P : Par}
variable (H : Are P (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))

include H in
/-- A row of a point's block is its token. -/
theorem tok_row (t : Fin cfg0.N) (b : Fin 4) (q : Fin 256) (d : Fin 512) :
    k0_pay36 (F := Ideal) (grid0.coords t) (iblk m c 1 t) (iblk m c 2 t) (iblk m c 3 t) (iblk m c 4 t) (iblk m c 5 t) (ix2 ⟨b.val * 256 + q.val, by omega⟩ d)
      = ((P.tok b ⟨t.val % 8 * 256 + q.val, by omega⟩ d : ℝ) : EReal) := by
  have hz := (by decide +kernel : ∀ t : Fin grid0.N, Scalar.cmpi .eq (Scalar.remsi (BitVec.ofNat 32 (grid0.coords t 0).val) 8#32) 0#32
    = if decide (t.val % 8 = 0) then 1#1 else 0#1) t
  obtain ⟨w, r, rfl⟩ : ∃ (w : Fin 4) (r : Fin 64), q = ⟨w.val * 64 + r.val, by omega⟩ :=
    ⟨⟨q.val / 64, by omega⟩, ⟨q.val % 64, by omega⟩, Fin.ext (by dsimp only; omega)⟩
  refine (rows_at (grid0.coords t) (decide (t.val % 8 = 0)) hz (iblk m c 1 t) (toks m c t) b w r d).trans ?_
  rw [blk1, toks_at, v23_at, V_main_arg1, H.h0, H.h1, Par.tok]
  by_cases h : w = 0 ∧ decide (t.val % 8 = 0) = true
  · have hw : w.val = 0 := congrArg Fin.val h.1
    have hz := of_decide_eq_true h.2
    rw [if_pos h, dif_pos (by dsimp only; omega)]
    exact congrArg (fun k => ((P.M k d : ℝ) : EReal)) (Fin.ext (by dsimp only; omega))
  · have hw : w.val ≠ 0 ∨ t.val % 8 ≠ 0 := by
      by_contra hn
      rw [not_or, not_not, not_not] at hn
      exact h ⟨Fin.ext hn.1, decide_eq_true hn.2⟩
    rw [if_neg h, dif_neg (by dsimp only; omega)]
    exact congrArg (fun k => ((P.X b k d : ℝ) : EReal)) (Fin.ext (by dsimp only; omega))

include H in
/-- A row of an early point's chunk is its token. -/
theorem chunk_row (t : Fin cfg0.N) (h : t.val < 8) (cc : Fin 2) (r d : Fin 512) :
    k0_pay36 (F := Ideal) (grid0.coords t) (iblk m c 1 t) (iblk m c 2 t) (iblk m c 3 t) (iblk m c 4 t) (iblk m c 5 t) (ix2 (row cc r) d)
      = ((rtok P ⟨2 * t.val + cc.val, by omega⟩ r d : ℝ) : EReal) := by
  have e : row cc r = ⟨(bt r).val * 256 + (cc.val * 128 + r.val % 128), by unfold bt; dsimp only; omega⟩ := Fin.ext (by unfold row bt; dsimp only; omega)
  rw [e]
  refine (tok_row m c H t (bt r) ⟨cc.val * 128 + r.val % 128, by omega⟩ d).trans ?_
  unfold rtok
  exact congrArg (fun k => ((P.tok (bt r) k d : ℝ) : EReal)) (Fin.ext (by unfold Par.at' lt; dsimp only; omega))

/-- The chunks' gradients before point `n`. -/
def part (P : Par) (p : Fin 2) (n : ℕ) (a b : Fin 512) : ℝ := ∑ k ∈ Finset.range (2 * n), if h : k < 16 then fac P ⟨k, h⟩ * P.u p ⟨k, h⟩ a b else 0

theorem part_next (P : Par) (p : Fin 2) (n : ℕ) (h : n < 8) (a b : Fin 512) :
    part P p (n + 1) a b = part P p n a b + (fac P ⟨2 * n + 0, by omega⟩ * P.u p ⟨2 * n + 0, by omega⟩ a b + fac P ⟨2 * n + 1, by omega⟩ * P.u p ⟨2 * n + 1, by omega⟩ a b) := by
  unfold part
  rw [show 2 * (n + 1) = 2 * n + 1 + 1 by ring, Finset.sum_range_succ, Finset.sum_range_succ, dif_pos (by omega), dif_pos (by omega), add_assoc]
  rfl

/-- All chunks' together are the mean gradient. -/
theorem part_all (P : Par) (p : Fin 2) (a b : Fin 512) : part P p 8 a b = P.g p a b := by
  unfold part Par.g
  rw [show 2 * 8 = 16 from rfl, Finset.sum_range]
  refine Finset.sum_congr rfl fun k _ => ?_
  rw [dif_pos k.isLt, mul_comm]
  rfl

theorem pay37_apply (a b : Fin 512) : k0_pay37 (F := Ideal) (ix2 a b) = ((0 : ℝ) : EReal) := by
  unfold k0_pay37
  pointwise
  exact EReal.coe_zero.symm
theorem pay38_apply (a b : Fin 512) : k0_pay38 (F := Ideal) (ix2 a b) = ((0 : ℝ) : EReal) := pay37_apply a b

include H in
/-- The accumulators before point `n`. -/
theorem accs_apply (n : ℕ) (hn : n ≤ 8) : (∀ a b, (accs m c n).1 (ix2 a b) = ((part P 0 n a b : ℝ) : EReal)) ∧ (∀ a b, (accs m c n).2 (ix2 a b) = ((part P 1 n a b : ℝ) : EReal)) := by
  induction n with
  | zero => exact ⟨fun a b => pay37_apply a b, fun a b => pay38_apply a b⟩
  | succ n ih =>
    obtain ⟨i0, i1⟩ := ih (by omega)
    have h : (pt n (by omega)).val < 8 := by show n < 8; omega
    have e := accs_early m c (pt n (by omega)) h
    have h6 := fun d j => (blk6 m c (pt n (by omega)) d j).trans (v3_at m c H.h5 H.h7 H.h9 d j)
    have h7 := fun j => (blk7 m c (pt n (by omega)) 0 j).trans (v6_at m c H.h6 H.h8 H.h10 j)
    have h8 := fun d j => ((blk8 m c (pt n (by omega)) d j).trans (v25_at m c d j)).trans (H.h2 0 d j)
    have h9 := fun d j => ((blk9 m c (pt n (by omega)) d j).trans (v27_at m c d j)).trans (H.h2 1 d j)
    have h10 := fun l j => ((blk10 m c (pt n (by omega)) l j).trans (v9_at m c l j)).trans (H.h2 1 j l)
    have hq := fun r => (coefAt_eq (pt n (by omega)) h r (iblk m c 0 (pt n (by omega)))).trans ((blk0 m c (pt n (by omega)) _).trans (v19_at m c _))
    have hr := chunk_row m c H (pt n (by omega)) h
    rw [show accs m c (n + 1) = _ from e]
    refine ⟨fun a b => ?_, fun a b => ?_⟩
    · rw [part_next P 0 n (by omega)]
      exact next0_apply (hr 0) (hr 1) h6 h7 h8 h9 h10 (hq 0) (hq 1) i0 a b
    · rw [part_next P 1 n (by omega)]
      exact next1_apply (x10 := iblk m c 10 (pt n (by omega))) (hr 0) (hr 1) h6 h7 h8 h9 (hq 0) (hq 1) i1 a b

include H in
/-- The new weights. -/
theorem new0_apply (a b : Fin 512) : new0 m c (ix2 a b) = ((P.new 0 a b : ℝ) : EReal) :=
  pay34_apply _ _ (P.g 0) (P.W 0) (fun i j => ((accs_apply m c H 8 le_rfl).1 i j).trans (by rw [part_all]))
    (fun i j => ((blk8 m c _ i j).trans (v25_at m c i j)).trans (H.h2 0 i j)) a b

include H in
theorem new1_apply (a b : Fin 512) : new1 m c (ix2 a b) = ((P.new 1 a b : ℝ) : EReal) :=
  pay35_apply _ _ (P.g 1) (P.W 1) (fun i j => ((accs_apply m c H 8 le_rfl).2 i j).trans (by rw [part_all]))
    (fun i j => ((blk9 m c _ i j).trans (v27_at m c i j)).trans (H.h2 1 i j)) a b

/-- The joined output projections of a retrieved row. -/
theorem out_scat (P : Par) (b : Fin 4) (t : Fin 2048) (j : Fin 1536) : lin (scat P) (P.ret b t) j = P.out b t j := by
  unfold lin scat Par.out
  split
  · rw [lin, Finset.sum_div]
    exact Finset.sum_congr rfl fun d _ => by ring
  split
  · rfl
  · rfl

/-- The result array. -/
def G (P : Par) : FVec Ideal S4x8x256x1536 .bf16 := fun i => ((P.out (i 0) ⟨(i 1).val * 256 + (i 2).val, by have h1 : (i 1).val < 8 := (i 1).isLt; have h2 : (i 2).val < 256 := (i 2).isLt; omega⟩ (i 3) : ℝ) : EReal)

include H in
/-- What a late point writes back is its block of the result. -/
theorem point_value (t : Fin cfg0.N) (ht : 8 ≤ t.val) (y : S4x1x256x1536.Idx) : (dats m 0 c).flushed 14 t y = G P (((cfg0.win 14).blk t).view.emb y) := by
  have hN : cfg0.N = 16 := N_0
  have hlt := t.isLt
  idx_vars y
  have hy1 : y1 = 0 := Subsingleton.elim _ _
  subst hy1
  have place : ((cfg0.win 14).blk t).view.emb (ix4 y0 (0 : Fin 1) y2 y3) = ix4 y0 (⟨t.val - 8, by omega⟩ : Fin 8) y2 y3 := by
    blk_ext [index_out t]
  have e := pay1_apply (k0_pay36 (F := Ideal) (grid0.coords t) (iblk m c 1 t) (iblk m c 2 t) (iblk m c 3 t) (iblk m c 4 t) (iblk m c 5 t)) (iblk m c 11 t) (new0 m c) (new1 m c) (iblk m c 12 t) (iblk m c 13 t)
    (fun r => P.tok ⟨r.val / 256, by omega⟩ ⟨t.val % 8 * 256 + r.val % 256, by omega⟩) P.Wq (P.new 0) (P.new 1) P.bq (scat P)
    (fun r d => ?_) (fun d j => ?_) (fun j => ?_) (new0_apply m c H) (new1_apply m c H) (fun d j => ?_) y0 y2 y3
  · rw [place]
    refine Eq.trans ?_ (e.trans ?_)
    · show (cfg0.win 14).cut (grid0.coords t) ((dats m 0 c).after 14 t) _ = _
      rw [after0_14]
      rfl
    · have hl : (t.val - 8) * 256 + y2.val < 2048 := by omega
      show ((lin (scat P) (P.ret ⟨(y0.val * 256 + y2.val) / 256, by omega⟩ ⟨t.val % 8 * 256 + (y0.val * 256 + y2.val) % 256, by omega⟩) y3 : ℝ) : EReal) = ((P.out y0 ⟨(t.val - 8) * 256 + y2.val, hl⟩ y3 : ℝ) : EReal)
      rw [out_scat]
      refine congrArg (fun x : ℝ => (x : EReal)) (congrArg₂ (fun b t => P.out b t y3) (Fin.ext ?_) (Fin.ext ?_))
      · dsimp only; omega
      · dsimp only; omega
  · have e : r = ⟨r.val / 256 * 256 + r.val % 256, by omega⟩ := Fin.ext (by dsimp only; omega)
    refine (congrArg (fun k => k0_pay36 (F := Ideal) (grid0.coords t) (iblk m c 1 t) (iblk m c 2 t) (iblk m c 3 t) (iblk m c 4 t) (iblk m c 5 t) (ix2 k d)) e).trans ?_
    exact tok_row m c H t ⟨r.val / 256, by omega⟩ ⟨r.val % 256, by omega⟩ d
  · exact ((blk11 m c t d j).trans (congrFun (V_main_arg3 m c) _)).trans (H.h3 d j)
  · exact ((blk12 m c t 0 j).trans (v28_at m c j)).trans (H.h4 j)
  · exact (blk13 m c t d j).trans (v22_at m c H.h11 H.h12 H.h13 d j)

include H in
/-- The kernel's result array after the run. -/
theorem array_value : (dats m 0 c).arrAt 14 cfg0.N = G P := by
  refine (dats m 0 c).arrAt_eq_of_covers 14 _ (by decide +kernel) fun t hf y => ?_
  have ht : 8 ≤ t.val := by
    by_contra hn
    rw [noFlush14 t (by omega)] at hf
    exact absurd hf Bool.false_ne_true
  exact point_value m c H t ht y

end Cert.MemoryIdeal.Spec

end
-- ==== Proof.MemoryI.RunA.lean ====
module

public import proofs.«01_k».proof.Proof.MemoryI.Step

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S16 .f32) (arg2 : Memref sig .tc .vmem S64x512 .f32) (arg3 : Memref sig .tc .vmem S4x1x64x512 .f32) (arg4 : Memref sig .tc .vmem S4x1x64x512 .f32) (arg5 : Memref sig .tc .vmem S4x1x64x512 .f32) (arg6 : Memref sig .tc .vmem S4x1x64x512 .f32) (arg7 : Memref sig .tc .vmem S512x1152 .f32) (arg8 : Memref sig .tc .vmem S1x1152 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S1x512 .f32) (arg14 : Memref sig .tc .vmem S512x1536 .f32) (arg15 : Memref sig .tc .vmem S4x1x256x1536 .bf16) (arg16 : Memref sig .tc .vmem S512x512 .f32) (arg17 : Memref sig .tc .vmem S512x512 .f32) (arg18 : Memref sig .tc .vmem S512x512 .f32) (arg19 : Memref sig .tc .vmem S512x512 .f32)
variable (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
variable (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (x11 : Vec F S512x512 .f32) (x12 : Vec F S1x512 .f32) (x13 : Vec F S512x1536 .f32)

set_option maxHeartbeats 8000000 in
/-- A first-half point that zeroes the accumulators (the first). -/
theorem run_first (x14 : Vec F S4x1x256x1536 .bf16) (hc0 : first i) (hc1 : early i) (hc2 : ¬turn i) (hc3 : ¬late i) (E : Set ℕ) (K : PUnit → sProp 𝕄) :
    iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ (∃ d, owns (c : Thread nD τ) arg16 fullShare d) ∗ (∃ d, owns (c : Thread nD τ) arg17 fullShare d) ∗ (iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ owns (c : Thread nD τ) arg16 fullShare (next0 i hc1 x0 x1 x2 x3 x4 x5 x6 x7 x8 x9 x10 k0_pay37) ∗ owns (c : Thread nD τ) arg17 fullShare (next1 i hc1 x0 x1 x2 x3 x4 x5 x6 x7 x8 x9 x10 k0_pay38)) -∗ K ⟨⟩))
      ⊢ wp frame (wpE (defs₀ (F := F)) Variants.none c none) E (cc0_memory_pipeline i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_memory_pipeline_eq_skeleton]; unfold cc0_memory_pipeline_skel
  simp only [k0_part5_eq_skeleton, k0_part1_eq_skeleton, k0_part2_eq_skeleton, k0_part3_eq_skeleton, k0_part4_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, ⟨%d0, %fs0, %hfs0, HS0⟩, ⟨%d1, %fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  obtain rfl := harg15.eq_unread hf14
  sl_exec (disch := first | sl_exact hc0 | sl_exact hc1 | sl_exact hc2 | sl_exact hc3)
  sl_step
  iapply Hk
  isplitl [H0 H1 H2 H3 H4 H5 H6 H7 H8 H9 H10 H11 H12 H13]
  · isplitl [H0]
    · iexists _; isplit; · ipureintro; exact harg1.read_unread _
      iexact H0
    isplitl [H1]
    · iexists _; isplit; · ipureintro; exact harg2.read_unread _
      iexact H1
    isplitl [H2]
    · iexists _; isplit; · ipureintro; exact harg3.read_unread _
      iexact H2
    isplitl [H3]
    · iexists _; isplit; · ipureintro; exact harg4.read_unread _
      iexact H3
    isplitl [H4]
    · iexists _; isplit; · ipureintro; exact harg5.read_unread _
      iexact H4
    isplitl [H5]
    · iexists _; isplit; · ipureintro; exact harg6.read_unread _
      iexact H5
    isplitl [H6]
    · iexists _; isplit; · ipureintro; exact harg7.read_unread _
      iexact H6
    isplitl [H7]
    · iexists _; isplit; · ipureintro; exact harg8.read_unread _
      iexact H7
    isplitl [H8]
    · iexists _; isplit; · ipureintro; exact harg9.read_unread _
      iexact H8
    isplitl [H9]
    · iexists _; isplit; · ipureintro; exact harg10.read_unread _
      iexact H9
    isplitl [H10]
    · iexists _; isplit; · ipureintro; exact harg11.read_unread _
      iexact H10
    isplitl [H11]
    · iexists _; isplit; · ipureintro; exact harg12.read_unread _
      iexact H11
    isplitl [H12]
    · iexists _; isplit; · ipureintro; exact harg13.read_unread _
      iexact H12
    iexists _; isplit; · ipureintro; exact harg14.read_unread _
    iexact H13
  isplitl [H14]
  · iexists _; isplit; swap; · iexact H14
    ipureintro; exact harg15.read_unread _
  isplitl [HS0]
  · iexists _; isplit; swap; · iexact HS0
    ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  iexists _; isplit; swap; · iexact HS1
  ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl

end Cert.MemoryIdeal.Run
-- ==== Proof.MemoryI.RunB.lean ====
module

public import proofs.«01_k».proof.Proof.MemoryI.Step

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S16 .f32) (arg2 : Memref sig .tc .vmem S64x512 .f32) (arg3 : Memref sig .tc .vmem S4x1x64x512 .f32) (arg4 : Memref sig .tc .vmem S4x1x64x512 .f32) (arg5 : Memref sig .tc .vmem S4x1x64x512 .f32) (arg6 : Memref sig .tc .vmem S4x1x64x512 .f32) (arg7 : Memref sig .tc .vmem S512x1152 .f32) (arg8 : Memref sig .tc .vmem S1x1152 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S1x512 .f32) (arg14 : Memref sig .tc .vmem S512x1536 .f32) (arg15 : Memref sig .tc .vmem S4x1x256x1536 .bf16) (arg16 : Memref sig .tc .vmem S512x512 .f32) (arg17 : Memref sig .tc .vmem S512x512 .f32) (arg18 : Memref sig .tc .vmem S512x512 .f32) (arg19 : Memref sig .tc .vmem S512x512 .f32)
variable (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
variable (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (x11 : Vec F S512x512 .f32) (x12 : Vec F S1x512 .f32) (x13 : Vec F S512x1536 .f32)

set_option maxHeartbeats 8000000 in
/-- A first-half point between the first and the last: it adds its gradients. -/
theorem run_middle (x14 : Vec F S4x1x256x1536 .bf16) (xs0 xs1 : Vec F S512x512 .f32) (hc0 : ¬first i) (hc1 : early i) (hc2 : ¬turn i) (hc3 : ¬late i) (E : Set ℕ) (K : PUnit → sProp 𝕄) :
    iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ owns (c : Thread nD τ) arg16 fullShare xs0 ∗ owns (c : Thread nD τ) arg17 fullShare xs1 ∗ (iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ owns (c : Thread nD τ) arg16 fullShare (next0 i hc1 x0 x1 x2 x3 x4 x5 x6 x7 x8 x9 x10 xs0) ∗ owns (c : Thread nD τ) arg17 fullShare (next1 i hc1 x0 x1 x2 x3 x4 x5 x6 x7 x8 x9 x10 xs1)) -∗ K ⟨⟩))
      ⊢ wp frame (wpE (defs₀ (F := F)) Variants.none c none) E (cc0_memory_pipeline i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_memory_pipeline_eq_skeleton]; unfold cc0_memory_pipeline_skel
  simp only [k0_part5_eq_skeleton, k0_part1_eq_skeleton, k0_part2_eq_skeleton, k0_part3_eq_skeleton, k0_part4_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  obtain rfl := harg15.eq_unread hf14; obtain rfl := harg16.eq_unread hfs0; obtain rfl := harg17.eq_unread hfs1
  sl_exec (disch := first | sl_exact hc0 | sl_exact hc1 | sl_exact hc2 | sl_exact hc3)
  sl_step
  iapply Hk
  isplitl [H0 H1 H2 H3 H4 H5 H6 H7 H8 H9 H10 H11 H12 H13]
  · isplitl [H0]
    · iexists _; isplit; · ipureintro; exact harg1.read_unread _
      iexact H0
    isplitl [H1]
    · iexists _; isplit; · ipureintro; exact harg2.read_unread _
      iexact H1
    isplitl [H2]
    · iexists _; isplit; · ipureintro; exact harg3.read_unread _
      iexact H2
    isplitl [H3]
    · iexists _; isplit; · ipureintro; exact harg4.read_unread _
      iexact H3
    isplitl [H4]
    · iexists _; isplit; · ipureintro; exact harg5.read_unread _
      iexact H4
    isplitl [H5]
    · iexists _; isplit; · ipureintro; exact harg6.read_unread _
      iexact H5
    isplitl [H6]
    · iexists _; isplit; · ipureintro; exact harg7.read_unread _
      iexact H6
    isplitl [H7]
    · iexists _; isplit; · ipureintro; exact harg8.read_unread _
      iexact H7
    isplitl [H8]
    · iexists _; isplit; · ipureintro; exact harg9.read_unread _
      iexact H8
    isplitl [H9]
    · iexists _; isplit; · ipureintro; exact harg10.read_unread _
      iexact H9
    isplitl [H10]
    · iexists _; isplit; · ipureintro; exact harg11.read_unread _
      iexact H10
    isplitl [H11]
    · iexists _; isplit; · ipureintro; exact harg12.read_unread _
      iexact H11
    isplitl [H12]
    · iexists _; isplit; · ipureintro; exact harg13.read_unread _
      iexact H12
    iexists _; isplit; · ipureintro; exact harg14.read_unread _
    iexact H13
  isplitl [H14]
  · iexists _; isplit; swap; · iexact H14
    ipureintro; exact harg15.read_unread _
  isplitl [HS0]
  · iexists _; isplit; swap; · iexact HS0
    ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  iexists _; isplit; swap; · iexact HS1
  ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl

end Cert.MemoryIdeal.Run
-- ==== Proof.MemoryI.RunC.lean ====
module

public import proofs.«01_k».proof.Proof.MemoryI.Step

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S16 .f32) (arg2 : Memref sig .tc .vmem S64x512 .f32) (arg3 : Memref sig .tc .vmem S4x1x64x512 .f32) (arg4 : Memref sig .tc .vmem S4x1x64x512 .f32) (arg5 : Memref sig .tc .vmem S4x1x64x512 .f32) (arg6 : Memref sig .tc .vmem S4x1x64x512 .f32) (arg7 : Memref sig .tc .vmem S512x1152 .f32) (arg8 : Memref sig .tc .vmem S1x1152 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S1x512 .f32) (arg14 : Memref sig .tc .vmem S512x1536 .f32) (arg15 : Memref sig .tc .vmem S4x1x256x1536 .bf16) (arg16 : Memref sig .tc .vmem S512x512 .f32) (arg17 : Memref sig .tc .vmem S512x512 .f32) (arg18 : Memref sig .tc .vmem S512x512 .f32) (arg19 : Memref sig .tc .vmem S512x512 .f32)
variable (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
variable (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (x11 : Vec F S512x512 .f32) (x12 : Vec F S1x512 .f32) (x13 : Vec F S512x1536 .f32)

set_option maxHeartbeats 8000000 in
/-- The last first-half point: it adds its gradients and makes the new weights. -/
theorem run_turn (x14 : Vec F S4x1x256x1536 .bf16) (xs0 xs1 : Vec F S512x512 .f32) (hc0 : ¬first i) (hc1 : early i) (hc2 : turn i) (hc3 : ¬late i) (E : Set ℕ) (K : PUnit → sProp 𝕄) :
    iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ owns (c : Thread nD τ) arg16 fullShare xs0 ∗ owns (c : Thread nD τ) arg17 fullShare xs1 ∗ (∃ d, owns (c : Thread nD τ) arg18 fullShare d) ∗ (∃ d, owns (c : Thread nD τ) arg19 fullShare d) ∗ (iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare x14 ∗ owns (c : Thread nD τ) arg16 fullShare (next0 i hc1 x0 x1 x2 x3 x4 x5 x6 x7 x8 x9 x10 xs0) ∗ owns (c : Thread nD τ) arg17 fullShare (next1 i hc1 x0 x1 x2 x3 x4 x5 x6 x7 x8 x9 x10 xs1) ∗ owns (c : Thread nD τ) arg18 fullShare (k0_pay34 (next0 i hc1 x0 x1 x2 x3 x4 x5 x6 x7 x8 x9 x10 xs0) x8 x8) ∗ owns (c : Thread nD τ) arg19 fullShare (k0_pay35 (next1 i hc1 x0 x1 x2 x3 x4 x5 x6 x7 x8 x9 x10 xs1) x9 x9)) -∗ K ⟨⟩))
      ⊢ wp frame (wpE (defs₀ (F := F)) Variants.none c none) E (cc0_memory_pipeline i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_memory_pipeline_eq_skeleton]; unfold cc0_memory_pipeline_skel
  simp only [k0_part5_eq_skeleton, k0_part1_eq_skeleton, k0_part2_eq_skeleton, k0_part3_eq_skeleton, k0_part4_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, ⟨%fs0, %hfs0, HS0⟩, ⟨%fs1, %hfs1, HS1⟩, ⟨%d2, %fs2, %hfs2, HS2⟩, ⟨%d3, %fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  obtain rfl := harg15.eq_unread hf14; obtain rfl := harg16.eq_unread hfs0; obtain rfl := harg17.eq_unread hfs1
  sl_exec (disch := first | sl_exact hc0 | sl_exact hc1 | sl_exact hc2 | sl_exact hc3)
  sl_step
  iapply Hk
  isplitl [H0 H1 H2 H3 H4 H5 H6 H7 H8 H9 H10 H11 H12 H13]
  · isplitl [H0]
    · iexists _; isplit; · ipureintro; exact harg1.read_unread _
      iexact H0
    isplitl [H1]
    · iexists _; isplit; · ipureintro; exact harg2.read_unread _
      iexact H1
    isplitl [H2]
    · iexists _; isplit; · ipureintro; exact harg3.read_unread _
      iexact H2
    isplitl [H3]
    · iexists _; isplit; · ipureintro; exact harg4.read_unread _
      iexact H3
    isplitl [H4]
    · iexists _; isplit; · ipureintro; exact harg5.read_unread _
      iexact H4
    isplitl [H5]
    · iexists _; isplit; · ipureintro; exact harg6.read_unread _
      iexact H5
    isplitl [H6]
    · iexists _; isplit; · ipureintro; exact harg7.read_unread _
      iexact H6
    isplitl [H7]
    · iexists _; isplit; · ipureintro; exact harg8.read_unread _
      iexact H7
    isplitl [H8]
    · iexists _; isplit; · ipureintro; exact harg9.read_unread _
      iexact H8
    isplitl [H9]
    · iexists _; isplit; · ipureintro; exact harg10.read_unread _
      iexact H9
    isplitl [H10]
    · iexists _; isplit; · ipureintro; exact harg11.read_unread _
      iexact H10
    isplitl [H11]
    · iexists _; isplit; · ipureintro; exact harg12.read_unread _
      iexact H11
    isplitl [H12]
    · iexists _; isplit; · ipureintro; exact harg13.read_unread _
      iexact H12
    iexists _; isplit; · ipureintro; exact harg14.read_unread _
    iexact H13
  isplitl [H14]
  · iexists _; isplit; swap; · iexact H14
    ipureintro; exact harg15.read_unread _
  isplitl [HS0]
  · iexists _; isplit; swap; · iexact HS0
    ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  isplitl [HS1]
  · iexists _; isplit; swap; · iexact HS1
    ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  isplitl [HS2]
  · iexists _; isplit; swap; · iexact HS2
    ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  iexists _; isplit; swap; · iexact HS3
  ipureintro; refine (read_last (S := S512x512) z2 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl

end Cert.MemoryIdeal.Run
-- ==== Proof.MemoryI.RunD.lean ====
module

public import proofs.«01_k».proof.Proof.MemoryI.Step

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S16 .f32) (arg2 : Memref sig .tc .vmem S64x512 .f32) (arg3 : Memref sig .tc .vmem S4x1x64x512 .f32) (arg4 : Memref sig .tc .vmem S4x1x64x512 .f32) (arg5 : Memref sig .tc .vmem S4x1x64x512 .f32) (arg6 : Memref sig .tc .vmem S4x1x64x512 .f32) (arg7 : Memref sig .tc .vmem S512x1152 .f32) (arg8 : Memref sig .tc .vmem S1x1152 .f32) (arg9 : Memref sig .tc .vmem S512x512 .f32) (arg10 : Memref sig .tc .vmem S512x512 .f32) (arg11 : Memref sig .tc .vmem S512x512 .f32) (arg12 : Memref sig .tc .vmem S512x512 .f32) (arg13 : Memref sig .tc .vmem S1x512 .f32) (arg14 : Memref sig .tc .vmem S512x1536 .f32) (arg15 : Memref sig .tc .vmem S4x1x256x1536 .bf16) (arg16 : Memref sig .tc .vmem S512x512 .f32) (arg17 : Memref sig .tc .vmem S512x512 .f32) (arg18 : Memref sig .tc .vmem S512x512 .f32) (arg19 : Memref sig .tc .vmem S512x512 .f32)
variable (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
variable (x0 : Vec F S16 .f32) (x1 : Vec F S64x512 .f32) (x2 : Vec F S4x1x64x512 .f32) (x3 : Vec F S4x1x64x512 .f32) (x4 : Vec F S4x1x64x512 .f32) (x5 : Vec F S4x1x64x512 .f32) (x6 : Vec F S512x1152 .f32) (x7 : Vec F S1x1152 .f32) (x8 : Vec F S512x512 .f32) (x9 : Vec F S512x512 .f32) (x10 : Vec F S512x512 .f32) (x11 : Vec F S512x512 .f32) (x12 : Vec F S1x512 .f32) (x13 : Vec F S512x1536 .f32)

set_option maxHeartbeats 8000000 in
/-- A second-half point: it stores the output block of the new weights. -/
theorem run_late (xs2 xs3 : Vec F S512x512 .f32) (hc0 : ¬first i) (hc1 : ¬early i) (hc2 : ¬turn i) (hc3 : late i) (E : Set ℕ) (K : PUnit → sProp 𝕄) :
    iprop(Ins c arg1 arg2 arg3 arg4 arg5 arg6 arg7 arg8 arg9 arg10 arg11 arg12 arg13 arg14 x0 x1 x2 x3 x4 x5 x6 x7 x8 x9 x10 x11 x12 x13 ∗ (∃ d, owns (c : Thread nD τ) arg15 fullShare d) ∗ owns (c : Thread nD τ) arg18 fullShare xs2 ∗ owns (c : Thread nD τ) arg19 fullShare xs3 ∗ (iprop(Ins c arg1 arg2 arg3 arg4 arg5 arg6 arg7 arg8 arg9 arg10 arg11 arg12 arg13 arg14 x0 x1 x2 x3 x4 x5 x6 x7 x8 x9 x10 x11 x12 x13 ∗ owns (c : Thread nD τ) arg15 fullShare (block i x1 x2 x3 x4 x5 x11 x12 x13 xs2 xs3) ∗ owns (c : Thread nD τ) arg18 fullShare xs2 ∗ owns (c : Thread nD τ) arg19 fullShare xs3) -∗ K ⟨⟩))
      ⊢ wp frame (wpE (defs₀ (F := F)) Variants.none c none) E (cc0_memory_pipeline i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_memory_pipeline_eq_skeleton]; unfold cc0_memory_pipeline_skel
  simp only [k0_part5_eq_skeleton, k0_part1_eq_skeleton, k0_part2_eq_skeleton, k0_part3_eq_skeleton, k0_part4_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, %hf14, H14⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  obtain rfl := harg18.eq_unread hfs2; obtain rfl := harg19.eq_unread hfs3
  sl_exec (disch := first | sl_exact hc0 | sl_exact hc1 | sl_exact hc2 | sl_exact hc3)
  sl_step
  iapply Hk
  isplitl [H0 H1 H2 H3 H4 H5 H6 H7 H8 H9 H10 H11 H12 H13]
  · isplitl [H0]
    · iexists _; isplit; · ipureintro; exact harg1.read_unread _
      iexact H0
    isplitl [H1]
    · iexists _; isplit; · ipureintro; exact harg2.read_unread _
      iexact H1
    isplitl [H2]
    · iexists _; isplit; · ipureintro; exact harg3.read_unread _
      iexact H2
    isplitl [H3]
    · iexists _; isplit; · ipureintro; exact harg4.read_unread _
      iexact H3
    isplitl [H4]
    · iexists _; isplit; · ipureintro; exact harg5.read_unread _
      iexact H4
    isplitl [H5]
    · iexists _; isplit; · ipureintro; exact harg6.read_unread _
      iexact H5
    isplitl [H6]
    · iexists _; isplit; · ipureintro; exact harg7.read_unread _
      iexact H6
    isplitl [H7]
    · iexists _; isplit; · ipureintro; exact harg8.read_unread _
      iexact H7
    isplitl [H8]
    · iexists _; isplit; · ipureintro; exact harg9.read_unread _
      iexact H8
    isplitl [H9]
    · iexists _; isplit; · ipureintro; exact harg10.read_unread _
      iexact H9
    isplitl [H10]
    · iexists _; isplit; · ipureintro; exact harg11.read_unread _
      iexact H10
    isplitl [H11]
    · iexists _; isplit; · ipureintro; exact harg12.read_unread _
      iexact H11
    isplitl [H12]
    · iexists _; isplit; · ipureintro; exact harg13.read_unread _
      iexact H12
    iexists _; isplit; · ipureintro; exact harg14.read_unread _
    iexact H13
  isplitl [H14]
  · iexists _; isplit; swap; · iexact H14
    ipureintro; refine (read_last (S := S4x1x256x1536) z4 (by decide) _ _ _ _).trans ?_; sl_unfold_words; simp only [harg1.readAt_unread, load_whole harg2 z2, load_whole harg3 z4, load_whole harg4 z4, load_whole harg5 z4, load_whole harg6 z4, load_whole harg7 z2, load_whole harg8 z2, load_whole harg9 z2, load_whole harg10 z2, load_whole harg11 z2, load_whole harg12 z2, load_whole harg13 z2, load_whole harg14 z2, load_whole harg16 z2, load_whole harg17 z2, load_whole harg18 z2, load_whole harg19 z2, readCov_last (S := S512x512) z2]; rfl
  isplitl [HS2]
  · iexists _; isplit; swap; · iexact HS2
    ipureintro; exact harg18.read_unread _
  iexists _; isplit; swap; · iexact HS3
  ipureintro; exact harg19.read_unread _

end Cert.MemoryIdeal.Run
-- ==== Proof.MemoryI.Point.lean ====
module

public import proofs.«01_k».proof.Proof.MemoryI.Data
public import proofs.«01_k».proof.Proof.MemoryI.RunA
public import proofs.«01_k».proof.Proof.MemoryI.RunB
public import proofs.«01_k».proof.Proof.MemoryI.RunC
public import proofs.«01_k».proof.Proof.MemoryI.RunD

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point. -/
theorem point_first (c : Dev nD) (t : Fin cfg0.N) (h0 : t.val = 0) (K : PUnit → sProp 𝕄) :
    iprop(PhiS m c t.val ∗ InsAt m c t ∗ (∃ d, owns (c : Thread nD τ) (ms0_14 t) fullShare ((dats m 0 c).before 14 t d))
        ∗ (iprop(PhiS m c (t.val + 1) ∗ InsAt m c t ∗ (dats m 0 c).leavesExact 14 t) -∗ K ⟨⟩))
      ⊢ wp frame (wpE (defs₀ (F := F)) Variants.none c none) Set.univ (bodyAt0 t) K := by
  have h8 : t.val < 8 := by omega
  rw [Dat.leavesExact_idle (dats m 0 c) 14 t (idle14 t h8) (noFlush14 t h8)]
  rw [PhiS_early m c (t.val + 1) (by omega) (by omega), accs_early m c t h8, show PhiS m c t.val = _ from by rw [PhiS, if_pos h0, PhiA0_eq], show accs m c t.val = (k0_pay37, k0_pay38) from by rw [h0]; rfl]
  unfold InsAt bodyAt0
  iintro ⟨⟨⟨HS0, HS1, HS2, HS3⟩, Hg⟩, HI, ⟨%d14, H14⟩, Hk⟩
  iapply (run_first c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ ((hfirst t).mpr (by omega)) ((hearly t).mpr (by omega)) (fun h => absurd ((hturn t).mp h) (by omega)) (fun h => absurd ((hlate t).mp h) (by omega)) Set.univ K)
  isplitl [HI]
  · iexact HI
  isplitl [H14]
  · iexact H14
  isplitl [HS0]
  · iexact HS0
  isplitl [HS1]
  · iexact HS1
  iintro ⟨HI, H14, HS0, HS1⟩
  iapply Hk
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [HI]
  · iexact HI
  iexists d14; iexact H14

/-- The body at a first-half point between the first and the last. -/
theorem point_middle (c : Dev nD) (t : Fin cfg0.N) (h0 : t.val ≠ 0) (h7 : t.val < 7) (K : PUnit → sProp 𝕄) :
    iprop(PhiS m c t.val ∗ InsAt m c t ∗ (∃ d, owns (c : Thread nD τ) (ms0_14 t) fullShare ((dats m 0 c).before 14 t d))
        ∗ (iprop(PhiS m c (t.val + 1) ∗ InsAt m c t ∗ (dats m 0 c).leavesExact 14 t) -∗ K ⟨⟩))
      ⊢ wp frame (wpE (defs₀ (F := F)) Variants.none c none) Set.univ (bodyAt0 t) K := by
  have h8 : t.val < 8 := by omega
  rw [Dat.leavesExact_idle (dats m 0 c) 14 t (idle14 t h8) (noFlush14 t h8)]
  rw [PhiS_early m c (t.val + 1) (by omega) (by omega), accs_early m c t h8, PhiS_early m c t.val h0 h8]
  unfold InsAt bodyAt0
  iintro ⟨⟨⟨HS0, HS1, HS2, HS3⟩, Hg⟩, HI, ⟨%d14, H14⟩, Hk⟩
  iapply (run_middle c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ (fun h => absurd ((hfirst t).mp h) (by omega)) ((hearly t).mpr (by omega)) (fun h => absurd ((hturn t).mp h) (by omega)) (fun h => absurd ((hlate t).mp h) (by omega)) Set.univ K)
  isplitl [HI]
  · iexact HI
  isplitl [H14]
  · iexact H14
  isplitl [HS0]
  · iexact HS0
  isplitl [HS1]
  · iexact HS1
  iintro ⟨HI, H14, HS0, HS1⟩
  iapply Hk
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [HI]
  · iexact HI
  iexists d14; iexact H14

/-- The body at the last first-half point. -/
theorem point_turn (c : Dev nD) (t : Fin cfg0.N) (h7 : t.val = 7) (K : PUnit → sProp 𝕄) :
    iprop(PhiS m c t.val ∗ InsAt m c t ∗ (∃ d, owns (c : Thread nD τ) (ms0_14 t) fullShare ((dats m 0 c).before 14 t d))
        ∗ (iprop(PhiS m c (t.val + 1) ∗ InsAt m c t ∗ (dats m 0 c).leavesExact 14 t) -∗ K ⟨⟩))
      ⊢ wp frame (wpE (defs₀ (F := F)) Variants.none c none) Set.univ (bodyAt0 t) K := by
  have h8 : t.val < 8 := by omega
  rw [Dat.leavesExact_idle (dats m 0 c) 14 t (idle14 t h8) (noFlush14 t h8)]
  have e : t = pt 7 (by omega) := Fin.ext h7
  have a := accs_early m c t h8
  have n0 : new0 m c = k0_pay34 (accs m c (t.val + 1)).1 (iblk m c 8 t) (iblk m c 8 t) := by rw [e]; rfl
  have n1 : new1 m c = k0_pay35 (accs m c (t.val + 1)).2 (iblk m c 9 t) (iblk m c 9 t) := by rw [e]; rfl
  rw [PhiS_late m c (t.val + 1) (by omega), n0, n1, a, PhiS_early m c t.val (by omega) h8]
  unfold InsAt bodyAt0
  iintro ⟨⟨⟨HS0, HS1, HS2, HS3⟩, Hg⟩, HI, ⟨%d14, H14⟩, Hk⟩
  iapply (run_turn c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ (fun h => absurd ((hfirst t).mp h) (by omega)) ((hearly t).mpr (by omega)) ((hturn t).mpr (by omega)) (fun h => absurd ((hlate t).mp h) (by omega)) Set.univ K)
  isplitl [HI]
  · iexact HI
  isplitl [H14]
  · iexact H14
  isplitl [HS0]
  · iexact HS0
  isplitl [HS1]
  · iexact HS1
  isplitl [HS2]
  · iexact HS2
  isplitl [HS3]
  · iexact HS3
  iintro ⟨HI, H14, HS0, HS1, HS2, HS3⟩
  iapply Hk
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [HI]
  · iexact HI
  iexists d14; iexact H14

/-- The body at a second-half point. -/
theorem point_late (c : Dev nD) (t : Fin cfg0.N) (h8 : 8 ≤ t.val) (K : PUnit → sProp 𝕄) :
    iprop(PhiS m c t.val ∗ InsAt m c t ∗ (∃ d, owns (c : Thread nD τ) (ms0_14 t) fullShare ((dats m 0 c).before 14 t d))
        ∗ (iprop(PhiS m c (t.val + 1) ∗ InsAt m c t ∗ (dats m 0 c).leavesExact 14 t) -∗ K ⟨⟩))
      ⊢ wp frame (wpE (defs₀ (F := F)) Variants.none c none) Set.univ (bodyAt0 t) K := by
  rw [leaves_out m c t h8, PhiS_late m c (t.val + 1) (by omega), accs_late m c t.val (by omega), PhiS_late m c t.val (by omega)]
  unfold InsAt bodyAt0
  iintro ⟨⟨⟨HS0, HS1, HS2, HS3⟩, Hg⟩, HI, ⟨%d14, H14⟩, Hk⟩
  iapply (run_late c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) scM0_0 scM0_1 scM0_2 scM0_3 (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (Memref.isWhole_whole cc0_scratch3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (fun h => absurd ((hfirst t).mp h) (by omega)) (fun h => absurd ((hearly t).mp h) (by omega)) (fun h => absurd ((hturn t).mp h) (by omega)) ((hlate t).mpr (by omega)) Set.univ K)
  isplitl [HI]
  · iexact HI
  isplitl [H14]
  · iexists _; iexact H14
  isplitl [HS2]
  · iexact HS2
  isplitl [HS3]
  · iexact HS3
  iintro ⟨HI, H14, HS2, HS3⟩
  iapply Hk
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [HI]
  · iexact HI
  iexact H14

/-- The body at any point. -/
theorem point (c : Dev nD) (t : Fin cfg0.N)  (K : PUnit → sProp 𝕄) :
    iprop(PhiS m c t.val ∗ InsAt m c t ∗ (∃ d, owns (c : Thread nD τ) (ms0_14 t) fullShare ((dats m 0 c).before 14 t d))
        ∗ (iprop(PhiS m c (t.val + 1) ∗ InsAt m c t ∗ (dats m 0 c).leavesExact 14 t) -∗ K ⟨⟩))
      ⊢ wp frame (wpE (defs₀ (F := F)) Variants.none c none) Set.univ (bodyAt0 t) K := by
  by_cases h0 : t.val = 0
  · exact point_first m c t h0 K
  by_cases h7 : t.val < 7
  · exact point_middle m c t h0 h7 K
  by_cases h8 : t.val = 7
  · exact point_turn m c t h8 K
  · exact point_late m c t (by omega) K

end Cert.MemoryIdeal.Run
-- ==== Proof.MemoryI.Frame.lean ====
module

public import proofs.«01_k».proof.Proof.MemoryI.Point
public import Idealize.ShloMosaic.Lib.Claim

@[expose] public section

set_option maxRecDepth 16384

noncomputable section

namespace Cert.MemoryIdeal.Run

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 4000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare (iblk m c 0 t) from (leaves_in m c 0 (by decide) t).trans (by rw [after0_0])]
  rw [show (dats m 0 c).leavesExact 1 t = owns (c : Thread nD τ) (ms0_1 t) fullShare (iblk m c 1 t) from (leaves_in m c 1 (by decide) t).trans (by rw [after0_1])]
  rw [show (dats m 0 c).leavesExact 2 t = owns (c : Thread nD τ) (ms0_2 t) fullShare (iblk m c 2 t) from (leaves_in m c 2 (by decide) t).trans (by rw [after0_2])]
  rw [show (dats m 0 c).leavesExact 3 t = owns (c : Thread nD τ) (ms0_3 t) fullShare (iblk m c 3 t) from (leaves_in m c 3 (by decide) t).trans (by rw [after0_3])]
  rw [show (dats m 0 c).leavesExact 4 t = owns (c : Thread nD τ) (ms0_4 t) fullShare (iblk m c 4 t) from (leaves_in m c 4 (by decide) t).trans (by rw [after0_4])]
  rw [show (dats m 0 c).leavesExact 5 t = owns (c : Thread nD τ) (ms0_5 t) fullShare (iblk m c 5 t) from (leaves_in m c 5 (by decide) t).trans (by rw [after0_5])]
  rw [show (dats m 0 c).leavesExact 6 t = owns (c : Thread nD τ) (ms0_6 t) fullShare (iblk m c 6 t) from (leaves_in m c 6 (by decide) t).trans (by rw [after0_6])]
  rw [show (dats m 0 c).leavesExact 7 t = owns (c : Thread nD τ) (ms0_7 t) fullShare (iblk m c 7 t) from (leaves_in m c 7 (by decide) t).trans (by rw [after0_7])]
  rw [show (dats m 0 c).leavesExact 8 t = owns (c : Thread nD τ) (ms0_8 t) fullShare (iblk m c 8 t) from (leaves_in m c 8 (by decide) t).trans (by rw [after0_8])]
  rw [show (dats m 0 c).leavesExact 9 t = owns (c : Thread nD τ) (ms0_9 t) fullShare (iblk m c 9 t) from (leaves_in m c 9 (by decide) t).trans (by rw [after0_9])]
  rw [show (dats m 0 c).leavesExact 10 t = owns (c : Thread nD τ) (ms0_10 t) fullShare (iblk m c 10 t) from (leaves_in m c 10 (by decide) t).trans (by rw [after0_10])]
  rw [show (dats m 0 c).leavesExact 11 t = owns (c : Thread nD τ) (ms0_11 t) fullShare (iblk m c 11 t) from (leaves_in m c 11 (by decide) t).trans (by rw [after0_11])]
  rw [show (dats m 0 c).leavesExact 12 t = owns (c : Thread nD τ) (ms0_12 t) fullShare (iblk m c 12 t) from (leaves_in m c 12 (by decide) t).trans (by rw [after0_12])]
  rw [show (dats m 0 c).leavesExact 13 t = owns (c : Thread nD τ) (ms0_13 t) fullShare (iblk m c 13 t) from (leaves_in m c 13 (by decide) t).trans (by rw [after0_13])]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (point m c t _)
  isplitl [HP]
  · iexact HP
  isplitl [H0 H1 H2 H3 H4 H5 H6 H7 H8 H9 H10 H11 H12 H13]
  · unfold InsAt Ins
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  isplitl [H14]
  · iexact H14
  unfold InsAt Ins
  iintro ⟨HP, ⟨H0, H1, H2, H3, H4, H5, H6, H7, H8, H9, H10, H11, H12, H13⟩, H14⟩
  isplitl [HP]
  · iexact HP
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS, if_pos rfl]

/-- After the last point the scratch is given back, its contents forgotten. -/
theorem hout (c : Dev nD) : (dats m 0 c).Φ (Fin.last cfg0.N) ⊢ Pipeline.ΦA spec0 c := by
  have hN : cfg0.N = 16 := N_0
  rw [show (dats m 0 c).Φ (Fin.last cfg0.N) = PhiS m c (Fin.last cfg0.N).val from rfl,
    PhiS_late m c _ (by rw [Fin.val_last]; omega), PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

set_option backward.isDefEq.respectTransparency.types false in
/-- Every execution ends, the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.MemoryIdeal.Run
-- ==== Proof.MemClaim.lean ====
/- The claims about the neural memory: kernel and reference end with the same array, and the reference's frame. -/
module

public import proofs.«01_k».proof.Defs
public import proofs.«01_k».proof.Proof.MemFinite
public import proofs.«01_k».proof.Proof.MemRefValue
public import proofs.«01_k».proof.Proof.MemoryI.Value
public import proofs.«01_k».proof.Proof.MemoryI.Frame
public import proofs.«01_k».proof.Proof.Memory.Frame
public import proofs.«01_k».proof.Proof.Gen.MemoryRefIdeal.Run
public import proofs.«01_k».proof.Proof.Gen.MemoryRefIdeal.Read
public import Idealize.ShloMosaic.Lib.Claim
public import Idealize.ShloMosaic.Lib.Quiescent

@[expose] public section

noncomputable section

namespace Cert.Proof

open Idealize.ShloMosaic Idealize.SL.Sem

/-- On finite arguments the kernel and the reference end with the same array: the updated memory's retrieval, projected. -/
theorem equal_memory : @Cert.algebraic_MemoryIdeal_MemoryRefIdeal_pre_finite_memory Cert.MemoryIdeal.Gen.facts Cert.MemoryRefIdeal.Gen.facts
    Cert.Pre_finite_memory.Gen.facts := by
  intro m g m' g' hpre hargs
  choose P hP using fun c => Cert.MemSpec.are_of_finite _ _ _ _ _ _ _ _ _ _ _ _ _ _ (hpre c)
  refine ⟨fun c => Cert.MemoryIdeal.Spec.G (P c), ?_, ?_⟩
  · refine (θ_run _ _ _).mono (fun r h c => ⟨?_, h.2 c⟩) (θ_run_and (Cert.MemoryIdeal.Run.run_main m g) (Cert.MemoryIdeal.Run.unchanged m g))
    exact ((h.1 c).1 14).trans (Cert.MemoryIdeal.Spec.array_value m c (hP c))
  · refine (θ_run _ _ _).mono (fun r h c => ⟨?_, (h c).2⟩) (Cert.MemoryRefIdeal.Value.run m' g')
    refine ((h c).1.trans (Cert.MemoryRefIdeal.Read.val_main_v126_eq _)).trans ?_
    obtain ⟨a0, a1, a2, a3, a4, a5, a6, a7, a8, a9, a10, a11, a12, a13⟩ := hargs c
    have hQ := hP c
    rw [← a0, ← a1, ← a2, ← a3, ← a4, ← a5, ← a6, ← a7, ← a8, ← a9, ← a10, ← a11, ← a12, ← a13] at hQ
    funext i
    idx_vars i
    exact Cert.MemoryRefIdeal.Spec.out_apply hQ i0 i1 i2 i3

/-- The reference terminates, its arguments kept; it has no semaphore. -/
theorem frame_memory_reference : @Cert.quiescent_MemoryRefIdeal Cert.MemoryRefIdeal.Gen.facts := fun m g _ =>
  (θ_run _ _ _).mono (fun r h => ⟨fun c => (h c).2, sem_eq_zero_of_no_sems rfl r.2⟩) (Cert.MemoryRefIdeal.Value.run m g)

end Cert.Proof

end
-- ==== Proof.lean ====
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Pre_finite_attention
public import proofs.«01_k».proof.Proof.Gen.Attention.Frame
public import proofs.«01_k».proof.Proof.Gen.AttentionIdeal.Frame
public import proofs.«01_k».proof.Proof.Gen.AttentionIdeal.Value
public import proofs.«01_k».proof.Proof.Gen.AttentionRefIdeal.Run
public import proofs.«01_k».proof.Proof.Gen.AttentionRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.Pre_finite_memory
public import proofs.«01_k».proof.Proof.ArrayValue
public import proofs.«01_k».proof.Proof.Finite
public import proofs.«01_k».proof.Proof.MemClaim
public import Idealize.ShloMosaic.Adequacy
public import Idealize.ShloMosaic.Init
public import Idealize.ShloMosaic.Lib.Quiescent

@[expose] public section

noncomputable section

namespace Cert.Proof

open Idealize.ShloMosaic Idealize.SL.Sem Cert.Attention

/-- On finite arguments the kernel and the reference end with the same array: the attention of the arguments. -/
theorem equal : @Cert.algebraic_AttentionIdeal_AttentionRefIdeal_pre_finite_attention Cert.AttentionIdeal.Gen.facts Cert.AttentionRefIdeal.Gen.facts
    Cert.Pre_finite_attention.Gen.facts := by
  intro m g m' g' hpre hargs
  have hr := fun c => Cert.Reals.entries_real _ _ (hpre c)
  choose X hX using fun c => (hr c).1
  choose Wo hWo using fun c => (hr c).2
  refine ⟨fun c => Cert.AttentionIdeal.Array.G (fun b u r k => X c (ix4 b u r k)) (fun r k => Wo c (ix2 r k)), ?_, ?_⟩
  · refine (θ_run _ _ _).mono (fun r h c => ?_) (Cert.AttentionIdeal.Value.run_blocks m g)
    refine ⟨(h c).1.trans ?_, (h c).2⟩
    exact Cert.AttentionIdeal.Array.array_value m c _ _ (fun b u r k => hX c (ix4 b u r k)) (fun r k => hWo c (ix2 r k))
  · refine (θ_run _ _ _).mono (fun r h c => ?_) (Cert.AttentionRefIdeal.Value.run m' g')
    refine ⟨(h c).1.trans ?_, (h c).2⟩
    rw [Cert.AttentionRefIdeal.Read.val_main_v39_eq, (hargs c).1, (hargs c).2]
    funext i
    idx_vars i
    exact Cert.AttentionRefIdeal.Spec.result_apply _ _ (fun b u r k => hX c (ix4 b u r k)) _ _ (fun r k => hWo c (ix2 r k)) i0 i1 i2

/-- The reference terminates, its arguments kept; it has no semaphore. -/
theorem frame_reference (m : (ℓ : Loc Cert.AttentionRefIdeal.nD Cert.AttentionRefIdeal.τ Cert.AttentionRefIdeal.sig) → Buf (Elt Ideal) ℓ)
    (g : Dev Cert.AttentionRefIdeal.nD → PrngReg) :
    θ_run (Cert.AttentionRefIdeal.defs (F := Ideal)) (onTc (τ := Cert.AttentionRefIdeal.τ) (Cert.AttentionRefIdeal.main (F := Ideal))) ⟨m, fun _ => 0, g⟩
      (fun r => (∀ c : Dev Cert.AttentionRefIdeal.nD,
        r.2.mem ((c.tc : Thread Cert.AttentionRefIdeal.nD Cert.AttentionRefIdeal.τ).loc Cert.AttentionRefIdeal.main_arg0)
          = m ((c.tc : Thread Cert.AttentionRefIdeal.nD Cert.AttentionRefIdeal.τ).loc Cert.AttentionRefIdeal.main_arg0)
        ∧ r.2.mem ((c.tc : Thread Cert.AttentionRefIdeal.nD Cert.AttentionRefIdeal.τ).loc Cert.AttentionRefIdeal.main_arg1)
          = m ((c.tc : Thread Cert.AttentionRefIdeal.nD Cert.AttentionRefIdeal.τ).loc Cert.AttentionRefIdeal.main_arg1))
        ∧ r.2.sem = fun _ => 0) :=
  (θ_run _ _ _).mono (fun r h => ⟨fun c => (h c).2, sem_eq_zero_of_no_sems rfl r.2⟩) (Cert.AttentionRefIdeal.Value.run m g)

theorem claim : Cert.Claim := ⟨Cert.Attention.Gen.facts, Cert.AttentionIdeal.Gen.facts, Cert.AttentionRefIdeal.Gen.facts,
  Cert.Memory.Gen.facts, Cert.MemoryIdeal.Gen.facts, Cert.MemoryRefIdeal.Gen.facts, Cert.Pre_finite_attention.Gen.facts, Cert.Pre_finite_memory.Gen.facts,
  fun m ρ _ => Cert.Attention.Gen.frame m ρ,
  fun m ρ _ => Cert.AttentionIdeal.Gen.frame m ρ,
  fun m ρ _ => Cert.AttentionIdeal.Gen.frame m ρ,
  fun m ρ _ => frame_reference m ρ,
  fun m ρ _ => frame_reference m ρ,
  fun m ρ _ => Cert.Memory.Run.frame m ρ,
  fun m ρ _ => Cert.MemoryIdeal.Run.frame m ρ,
  fun m ρ _ => Cert.MemoryIdeal.Run.frame m ρ,
  frame_memory_reference,
  fun m ρ _ => frame_memory_reference m ρ trivial,
  IdealRules.named_const.statement Cert.AttentionIdeal.κ "mask" .f32 0xCE6E6B28#32 ⊥ rfl,
  equal,
  trivial,
  equal_memory⟩

end Cert.Proof

end
